-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S50000x128 : Shape := ⟨2, ![50000, 128]⟩
abbrev S1600000x16 : Shape := ⟨2, ![1600000, 16]⟩
abbrev S4096x128 : Shape := ⟨2, ![4096, 128]⟩
abbrev S50000 : Shape := ⟨1, ![50000]⟩
abbrev S1600000 : Shape := ⟨1, ![1600000]⟩
abbrev S256x272 : Shape := ⟨2, ![256, 272]⟩
abbrev S256 : Shape := ⟨1, ![256]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S50000x128 .f32) (main_arg1 : FVec F S1600000x16 .f32) (main_arg2 : FVec F S4096x128 .f32) (main_arg3 : IVec S50000 32) (main_arg4 : IVec S1600000 32) (main_arg5 : FVec F S256x272 .f32) (main_arg6 : FVec F S256 .f32) (main_arg7 : FVec F S128x256 .f32) (main_arg8 : FVec F S128 .f32) (main_arg9 : FVec F S128x128 .f32) (main_arg10 : FVec F S128 .f32) : IVec S_ 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 32 := constantI S_ 32 4096#32
  let main_v2 : IVec S50000 32 := broadcastInDim S50000 ![] bcast_S_S50000 main_c_0
  let main_v3 : IVec S50000 1 := cmpi .slt main_arg3 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_c_2 : IVec S_ 32 := constantI S_ 32 0#32
  let main_v6 : IVec S1600000 32 := broadcastInDim S1600000 ![] bcast_S_S1600000 main_c_2
  let main_v7 : IVec S1600000 1 := cmpi .sge main_arg4 main_v6
  let main_c_3 : IVec S_ 32 := constantI S_ 32 4096#32
  let main_v8 : IVec S1600000 32 := broadcastInDim S1600000 ![] bcast_S_S1600000 main_c_3
  let main_v9 : IVec S1600000 1 := cmpi .slt main_arg4 main_v8
  let main_v10 : IVec S1600000 1 := andi main_v7 main_v9
  let main_c_4 : IVec S_ 1 := constantI S_ 1 1#1
  let main_v11 : IVec S_ 1 := (fun x v => Host.reduce IntOp.andi x v reducesTo_S1600000_S_d0 h_S_) main_v10 main_c_4
  let main_v12 : IVec S_ 1 := andi main_v5 main_v11
  main_v12
-- ==== Kernel.lean ====
abbrev S50000x128 : Shape := ⟨2, ![50000, 128]⟩
abbrev S1600000x16 : Shape := ⟨2, ![1600000, 16]⟩
abbrev S4096x128 : Shape := ⟨2, ![4096, 128]⟩
abbrev S50000 : Shape := ⟨1, ![50000]⟩
abbrev S1600000 : Shape := ⟨1, ![1600000]⟩
abbrev S256x272 : Shape := ⟨2, ![256, 272]⟩
abbrev S256 : Shape := ⟨1, ![256]⟩
abbrev S128x256 : Shape := ⟨2, ![128, 256]⟩
abbrev S128 : Shape := ⟨1, ![128]⟩
abbrev S128x128 : Shape := ⟨2, ![128, 128]⟩
abbrev S800x1x2000 : Shape := ⟨3, ![800, 1, 2000]⟩
abbrev S4104x16 : Shape := ⟨2, ![4104, 16]⟩
abbrev S4104x8 : Shape := ⟨2, ![4104, 8]⟩
abbrev S1x1x2000 : Shape := ⟨3, ![1, 1, 2000]⟩
abbrev S2000x16 : Shape := ⟨2, ![2000, 16]⟩
abbrev S1x2000 : Shape := ⟨2, ![1, 2000]⟩
abbrev S1 : Shape := ⟨1, ![1]⟩
abbrev S1x1x1 : Shape := ⟨3, ![1, 1, 1]⟩
abbrev S8x2000 : Shape := ⟨2, ![8, 2000]⟩
abbrev S8x16 : Shape := ⟨2, ![8, 16]⟩
abbrev S8 : Shape := ⟨1, ![8]⟩
abbrev S8x1 : Shape := ⟨2, ![8, 1]⟩
abbrev S8x8 : Shape := ⟨2, ![8, 8]⟩
abbrev S4096x16 : Shape := ⟨2, ![4096, 16]⟩
abbrev S4096x1 : Shape := ⟨2, ![4096, 1]⟩
abbrev S125x1x400 : Shape := ⟨3, ![125, 1, 400]⟩
abbrev S4128x128 : Shape := ⟨2, ![4128, 128]⟩
abbrev S4128x8 : Shape := ⟨2, ![4128, 8]⟩
abbrev S1x1x400 : Shape := ⟨3, ![1, 1, 400]⟩
abbrev S400x128 : Shape := ⟨2, ![400, 128]⟩
abbrev S1x400 : Shape := ⟨2, ![1, 400]⟩
abbrev S32x400 : Shape := ⟨2, ![32, 400]⟩
abbrev S32x128 : Shape := ⟨2, ![32, 128]⟩
abbrev S32 : Shape := ⟨1, ![32]⟩
abbrev S32x1 : Shape := ⟨2, ![32, 1]⟩
abbrev S32x8 : Shape := ⟨2, ![32, 8]⟩
abbrev S272x256 : Shape := ⟨2, ![272, 256]⟩
abbrev S16x256 : Shape := ⟨2, ![16, 256]⟩
abbrev S1x256 : Shape := ⟨2, ![1, 256]⟩
abbrev S256x128 : Shape := ⟨2, ![256, 128]⟩
abbrev S1x128 : Shape := ⟨2, ![1, 128]⟩
abbrev S4096x256 : Shape := ⟨2, ![4096, 256]⟩

abbrev nBuf : Space → Nat
  | .hbm => 31
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S1600000x16, .f32⟩
  | .hbm, ⟨2, _⟩ => ⟨S4096x128, .f32⟩
  | .hbm, ⟨3, _⟩ => ⟨S50000, .i32⟩
  | .hbm, ⟨4, _⟩ => ⟨S1600000, .i32⟩
  | .hbm, ⟨5, _⟩ => ⟨S256x272, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S800x1x2000, .i32⟩
  | .hbm, ⟨12, _⟩ => ⟨S4104x16, .f32⟩
  | .hbm, ⟨13, _⟩ => ⟨S4104x8, .f32⟩
  | .hbm, ⟨14, _⟩ => ⟨S4096x16, .f32⟩
  | .hbm, ⟨15, _⟩ => ⟨S4096x1, .f32⟩
  | .hbm, ⟨16, _⟩ => ⟨S125x1x400, .i32⟩
  | .hbm, ⟨17, _⟩ => ⟨S4128x128, .f32⟩
  | .hbm, ⟨18, _⟩ => ⟨S4128x8, .f32⟩
  | .hbm, ⟨19, _⟩ => ⟨S4096x128, .f32⟩
  | .hbm, ⟨20, _⟩ => ⟨S4096x1, .f32⟩
  | .hbm, ⟨21, _⟩ => ⟨S272x256, .f32⟩
  | .hbm, ⟨22, _⟩ => ⟨S16x256, .f32⟩
  | .hbm, ⟨23, _⟩ => ⟨S128x256, .f32⟩
  | .hbm, ⟨24, _⟩ => ⟨S128x256, .f32⟩
  | .hbm, ⟨25, _⟩ => ⟨S1x256, .f32⟩
  | .hbm, ⟨26, _⟩ => ⟨S256x128, .f32⟩
  | .hbm, ⟨27, _⟩ => ⟨S1x128, .f32⟩
  | .hbm, ⟨28, _⟩ => ⟨S128x128, .f32⟩
  | .hbm, ⟨29, _⟩ => ⟨S1x128, .f32⟩
  | .hbm, ⟨30, _⟩ => ⟨S4096x128, .f32⟩
  | .local _ .vmem, ⟨0, _⟩ => ⟨S1x1x2000, .i32⟩
  | .local _ .vmem, ⟨1, _⟩ => ⟨S1x1x2000, .i32⟩
  | .local _ .vmem, ⟨2, _⟩ => ⟨S2000x16, .f32⟩
  | .local _ .vmem, ⟨3, _⟩ => ⟨S2000x16, .f32⟩
  | .local _ .vmem, ⟨4, _⟩ => ⟨S4104x16, .f32⟩
  | .local _ .vmem, ⟨5, _⟩ => ⟨S4104x8, .f32⟩
  | .local _ .vmem, ⟨6, _⟩ => ⟨S1x1x400, .i32⟩
  | .local _ .vmem, ⟨7, _⟩ => ⟨S1x1x400, .i32⟩
  | .local _ .vmem, ⟨8, _⟩ => ⟨S400x128, .f32⟩
  | .local _ .vmem, ⟨9, _⟩ => ⟨S400x128, .f32⟩
  | .local _ .vmem, ⟨10, _⟩ => ⟨S4128x128, .f32⟩
  | .local _ .vmem, ⟨11, _⟩ => ⟨S4128x8, .f32⟩
  | .local _ .vmem, ⟨12, _⟩ => ⟨S4096x16, .f32⟩
  | .local _ .vmem, ⟨13, _⟩ => ⟨S4096x1, .f32⟩
  | .local _ .vmem, ⟨14, _⟩ => ⟨S4096x128, .f32⟩
  | .local _ .vmem, ⟨15, _⟩ => ⟨S4096x1, .f32⟩
  | .local _ .vmem, ⟨16, _⟩ => ⟨S4096x128, .f32⟩
  | .local _ .vmem, ⟨17, _⟩ => ⟨S16x256, .f32⟩
  | .local _ .vmem, ⟨18, _⟩ => ⟨S128x256, .f32⟩
  | .local _ .vmem, ⟨19, _⟩ => ⟨S128x256, .f32⟩
  | .local _ .vmem, ⟨20, _⟩ => ⟨S1x256, .f32⟩
  | .local _ .vmem, ⟨21, _⟩ => ⟨S256x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25

abbrev nD : Nat := 1
abbrev τ : Topo := Topo.v7x

variable {F : FTy → Type} [FloatOps F]

abbrev grid0 : Pipeline.Grid := ⟨1, ![800], ![false]⟩

def k0_mult1 (arg5 : BitVec 32) : BitVec 32 :=
  arg5

def k0_off1 (arg5 : BitVec 32) : Fin 2 → Nat :=
  let v33 : BitVec 32 := arg5
  let v45 : Index := Scalar.indexCast v33
  let c0_14 : Index := 0#32
  ![v45.toNat, 0]
def k0_off2 (arg5 : BitVec 32) : Fin 2 → Nat :=
  let v33 : BitVec 32 := arg5
  let v51 : Index := Scalar.indexCast v33
  let c0_16 : Index := 0#32
  ![v51.toNat, 0]

def k0_chk1 (arg5 : BitVec 32) : Prop :=
  (8 ∣ (k0_mult1 arg5).toNat) ∧
  (∀ a, (k0_off1 arg5) a + S8x16.size a ≤ S4104x16.size a) ∧
  (∀ a, (k0_off2 arg5) a + S8x8.size a ≤ S4104x8.size a)
theorem k0_mult1_dvd : ∀ (arg5 : BitVec 32) (k0_hw1 : k0_chk1 arg5), 8 ∣ (k0_mult1 arg5).toNat := fun arg5 k0_hw1 => k0_hw1.1
theorem k0_off1_inb : ∀ (arg5 : BitVec 32) (k0_hw1 : k0_chk1 arg5), ∀ a, (k0_off1 arg5) a + S8x16.size a ≤ S4104x16.size a := fun arg5 k0_hw1 => k0_hw1.2.1
theorem k0_off2_inb : ∀ (arg5 : BitVec 32) (k0_hw1 : k0_chk1 arg5), ∀ a, (k0_off2 arg5) a + S8x8.size a ≤ S4104x8.size a := fun arg5 k0_hw1 => k0_hw1.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4104x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4104x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![125], ![false]⟩

def k1_mult1 (arg5 : BitVec 32) : BitVec 32 :=
  arg5

def k1_off1 (arg5 : BitVec 32) : Fin 2 → Nat :=
  let v33 : BitVec 32 := arg5
  let v45 : Index := Scalar.indexCast v33
  let c0_14 : Index := 0#32
  ![v45.toNat, 0]
def k1_off2 (arg5 : BitVec 32) : Fin 2 → Nat :=
  let v33 : BitVec 32 := arg5
  let v51 : Index := Scalar.indexCast v33
  let c0_16 : Index := 0#32
  ![v51.toNat, 0]

def k1_chk1 (arg5 : BitVec 32) : Prop :=
  (8 ∣ (k1_mult1 arg5).toNat) ∧
  (∀ a, (k1_off1 arg5) a + S32x128.size a ≤ S4128x128.size a) ∧
  (∀ a, (k1_off2 arg5) a + S32x8.size a ≤ S4128x8.size a)
theorem k1_mult1_dvd : ∀ (arg5 : BitVec 32) (k1_hw1 : k1_chk1 arg5), 8 ∣ (k1_mult1 arg5).toNat := fun arg5 k1_hw1 => k1_hw1.1
theorem k1_off1_inb : ∀ (arg5 : BitVec 32) (k1_hw1 : k1_chk1 arg5), ∀ a, (k1_off1 arg5) a + S32x128.size a ≤ S4128x128.size a := fun arg5 k1_hw1 => k1_hw1.2.1
theorem k1_off2_inb : ∀ (arg5 : BitVec 32) (k1_hw1 : k1_chk1 arg5), ∀ a, (k1_off2 arg5) a + S32x8.size a ≤ S4128x8.size a := fun arg5 k1_hw1 => k1_hw1.2.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x400 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S4096x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4096x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4096x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S16x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S4096x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
-- ==== ReferenceIdeal.lean ====
abbrev S50000x128 : Shape := ⟨2, ![50000, 128]⟩
abbrev S1600000x16 : Shape := ⟨2, ![1600000, 16]⟩
abbrev S4096x128 : Shape := ⟨2, ![4096, 128]⟩
abbrev S50000 : Shape := ⟨1, ![50000]⟩
abbrev S1600000 : Shape := ⟨1, ![1600000]⟩
abbrev S256x272 : Shape := ⟨2, ![256, 272]⟩
abbrev S256 : Shape := ⟨1, ![256]⟩
abbrev S128x256 : Shape := ⟨2, ![128, 256]⟩
abbrev S128 : Shape := ⟨1, ![128]⟩
abbrev S128x128 : Shape := ⟨2, ![128, 128]⟩
abbrev S_ : Shape := ⟨0, ![]⟩
abbrev S4096x16 : Shape := ⟨2, ![4096, 16]⟩
abbrev S1600000x1 : Shape := ⟨2, ![1600000, 1]⟩
abbrev S4096 : Shape := ⟨1, ![4096]⟩
abbrev S4096x1 : Shape := ⟨2, ![4096, 1]⟩
abbrev S50000x1 : Shape := ⟨2, ![50000, 1]⟩
abbrev S4096x272 : Shape := ⟨2, ![4096, 272]⟩
abbrev S272x256 : Shape := ⟨2, ![272, 256]⟩
abbrev S4096x256 : Shape := ⟨2, ![4096, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x16, .f32⟩
  | .hbm, ⟨2, _⟩ => ⟨S4096x128, .f32⟩
  | .hbm, ⟨3, _⟩ => ⟨S50000, .i32⟩
  | .hbm, ⟨4, _⟩ => ⟨S1600000, .i32⟩
  | .hbm, ⟨5, _⟩ => ⟨S256x272, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S4096x16, .f32⟩
  | .hbm, ⟨13, _⟩ => ⟨S1600000x1, .i32⟩
  | .hbm, ⟨14, _⟩ => ⟨S4096x16, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S4096, .f32⟩
  | .hbm, ⟨19, _⟩ => ⟨S1600000x1, .i32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x128, .f32⟩
  | .hbm, ⟨30, _⟩ => ⟨S50000x1, .i32⟩
  | .hbm, ⟨31, _⟩ => ⟨S4096x128, .f32⟩
  | .hbm, ⟨32, _⟩ => ⟨S_, .f32⟩
  | .hbm, ⟨33, _⟩ => ⟨S50000, .f32⟩
  | .hbm, ⟨34, _⟩ => ⟨S_, .f32⟩
  | .hbm, ⟨35, _⟩ => ⟨S4096, .f32⟩
  | .hbm, ⟨36, _⟩ => ⟨S50000x1, .i32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x128, .f32⟩
  | .hbm, ⟨44, _⟩ => ⟨S4096x128, .f32⟩
  | .hbm, ⟨45, _⟩ => ⟨S4096x272, .f32⟩
  | .hbm, ⟨46, _⟩ => ⟨S272x256, .f32⟩
  | .hbm, ⟨47, _⟩ => ⟨S4096x256, .f32⟩
  | .hbm, ⟨48, _⟩ => ⟨S1x256, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S256x128, .f32⟩
  | .hbm, ⟨55, _⟩ => ⟨S4096x128, .f32⟩
  | .hbm, ⟨56, _⟩ => ⟨S1x128, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096x128, .f32⟩
  | .hbm, ⟨61, _⟩ => ⟨S4096x128, .f32⟩
  | .hbm, ⟨62, _⟩ => ⟨S128x128, .f32⟩
  | .hbm, ⟨63, _⟩ => ⟨S4096x128, .f32⟩
  | .hbm, ⟨64, _⟩ => ⟨S1x128, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call2_cst : Ref sig .tc := ⟨.hbm, 51, rfl⟩
abbrev main_call2_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call3_cst : Ref sig .tc := ⟨.hbm, 59, rfl⟩
abbrev main_call3_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call4_cst : Ref sig .tc := ⟨.hbm, 67, rfl⟩
abbrev main_call4_v0 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== Proof.Pre.lean ====
/-
  What the precondition says of the ids, in any float instance: every id of a site and every id of a bond, read as a
  natural, is below 4096.
-/
module

public import proofs.«01_k».proof.Pre_in_range
public import Idealize.ShloMosaic.Lib.ReduceAll

@[expose] public section

namespace Cert.Pre

open Idealize.ShloMosaic Cert.Pre_in_range Cert.Pre_in_range.Facts

/-- A word read signed that is at least 0 and below 4096 is below 4096 read as a natural. -/
theorem word_lt (x : BitVec 32) (h₀ : 0 ≤ x.toInt) (h₁ : x.toInt < 4096) : x.toNat < 4096 := by
  have h := x.isLt
  rw [BitVec.toInt_eq_toNat_cond] at h₀ h₁
  split at h₀ <;> omega

/-- Two bits whose conjunction is 1 are both 1. -/
theorem both {a b : BitVec 1} (h : IntOp.andi a b = 1#1) : a = 1#1 ∧ b = 1#1 := by
  revert h; revert a b; decide

variable {F : FTy → Type} [FloatOps F] [hP : Facts]

/-- The precondition gives the ranges of the two arrays of ids. -/
theorem ranges {a0 : FVec F S50000x128 .f32} {a1 : FVec F S1600000x16 .f32} {a2 : FVec F S4096x128 .f32} {a3 : IVec S50000 32}
    {a4 : IVec S1600000 32} {a5 : FVec F S256x272 .f32} {a6 : FVec F S256 .f32} {a7 : FVec F S128x256 .f32} {a8 : FVec F S128 .f32}
    {a9 : FVec F S128x128 .f32} {a10 : FVec F S128 .f32} (h : fn a0 a1 a2 a3 a4 a5 a6 a7 a8 a9 a10 = fun _ => 1#1) :
    (∀ n, (a3 n).toNat < 4096) ∧ ∀ n, (a4 n).toNat < 4096 := by
  have h' := both (congrFun h fun a => a.elim0)
  exact ⟨fun n =>
      have e := both (Host.reduce_andi_all _ _ _ _ (fun a => a.elim0) h'.1 n)
      word_lt _ (IntOp.cmpi_sge.1 e.1) (IntOp.cmpi_slt.1 e.2),
    fun n =>
      have e := both (Host.reduce_andi_all _ _ _ _ (fun a => a.elim0) h'.2 n)
      word_lt _ (IntOp.cmpi_sge.1 e.1) (IntOp.cmpi_slt.1 e.2)⟩

end Cert.Pre

end
-- ==== Proof.Own.lean ====
/-
  Loads and stores of an owned memref, in the memref's own coordinates: a load through a rectangle reads the
  owned contents under the rectangle's coordinates, and an unmasked store through it leaves the contents with the
  rectangle's part replaced. The kernels' triples are stated over owned memrefs and use these two rules for every
  access.
-/
module

public import Idealize.ShloMosaic.Lib.Pipeline.Frame
public import Idealize.ShloMosaic.Lib.Tactic

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {α : Type}

local notation "𝕄" => MT nD τ sig Ix Val Name U Lvl

variable (defs : Defs nD τ sig Val Λ) (𝒱 : Variants) (c : Dev nD) (bd : Option 𝒱.V) (E : Set Name)

/-- A load of an owned memref through a rectangle: the program continues at the owned contents read under the
    rectangle's coordinates, the memref still owned. -/
theorem load {cs : CoreSpace} {s : Shape} {e : EltTy} {M : Memref sig .tc cs s e} {r : Rect s} {hl : M.view.LoadsAt r.toLoadRect}
    {X : s.Idx → Val e} {k : (r.shape.Idx → Val e) → Prog (TpuEff nD τ sig Val Λ .tc) α} {Q : α → sProp 𝕄} :
    owns (c : Thread nD τ) M fullShare X
      ⊢ iprop((owns (c : Thread nD τ) M fullShare X -∗ wp frame (wpE defs 𝒱 (c : Thread nD τ) bd) E (k fun j => X (r.emb j)) Q)
        -∗ wp frame (wpE defs 𝒱 (c : Thread nD τ) bd) E (.op (.load M r.toLoadRect hl) k) Q) := by
  unfold owns
  iintro ⟨%f, %hf, H⟩ Hk
  subst hf
  iapply (wp_load_rect 𝒱 (c : Thread nD τ) bd E (m := M) (r := r) (S := M.view.set) (View.set_slice_subset _ _)) $$ H
  iintro H
  iapply Hk
  iexists f
  isplitr; · ipureintro; rfl
  iexact H

/-- An unmasked store to an owned memref through a rectangle: the program continues with the memref owned at the old
    contents with the rectangle's part replaced by what was stored. -/
theorem store {cs : CoreSpace} {s : Shape} {e : EltTy} {M : Memref sig .tc cs s e} {r : Rect s} {w : r.shape.Idx → Val e}
    {hx : (M.access r).Stores Finset.univ} {hm : (Finset.univ : Finset r.shape.Idx) = Finset.univ ∨ ∀ a, r.stride a = 1}
    {X : s.Idx → Val e} {k : PUnit → Prog (TpuEff nD τ sig Val Λ .tc) α} {Q : α → sProp 𝕄} :
    owns (c : Thread nD τ) M fullShare X
      ⊢ iprop((owns (c : Thread nD τ) M fullShare (r.overlay X w) -∗ wp frame (wpE defs 𝒱 (c : Thread nD τ) bd) E (k ⟨⟩) Q)
        -∗ wp frame (wpE defs 𝒱 (c : Thread nD τ) bd) E (.op (.store M r w Finset.univ hx hm) k) Q) := by
  unfold owns
  iintro ⟨%f, %hf, H⟩ Hk
  subst hf
  iapply (wp_store 𝒱 (c : Thread nD τ) bd E (m := M) (r := r) (S := M.view.set) (by rw [View.setOn_univ]; exact View.set_slice_subset _ _)) $$ H
  iintro H
  iapply Hk
  iexists _
  isplitr; swap; · iexact H
  ipureintro
  funext y
  by_cases hy : y ∈ r.set
  · obtain ⟨x, rfl⟩ : ∃ x, r.emb x = y := r.exists_idx_of_mem hy
    rw [Rect.overlay_emb]
    exact View.read_slice_write_emb r f w (Finset.mem_univ x)
  · rw [Rect.overlay_of_not_mem _ _ _ hy]
    exact View.read_slice_write_of_not_mem r f w _ (by rw [Rect.map_emb_univ]; exact hy)

/-- Replacing the whole of a shape's contents leaves what was put there. -/
theorem overlay_whole {s : Shape} {α : Type} {off : Fin s.rank → Nat} (h : off = fun _ => 0)
    (inb : ∀ a, off a + s.size a ≤ s.size a) (X : s.Idx → α) (w : s.Idx → α) :
    (Rect.unit off s.size inb).overlay X w = w := by
  subst h
  funext y
  have : (Rect.unit (s := s) (fun _ => 0) s.size inb).emb y = y := by
    funext a; apply Fin.ext; simp [Rect.emb, Rect.unit]
  exact (congrArg _ this.symm).trans (Rect.overlay_emb (Rect.unit (s := s) (fun _ => 0) s.size inb) X w y)

/-- The whole of a shape's contents read back: the coordinates are the coordinates. -/
theorem emb_whole {s : Shape} {off : Fin s.rank → Nat} (h : off = fun _ => 0)
    (inb : ∀ a, off a + s.size a ≤ s.size a) (y : s.Idx) :
    (Rect.unit off s.size inb).emb y = y := by
  subst h
  funext a; apply Fin.ext; simp [Rect.emb, Rect.unit]

/-- A load of the whole of an owned memref: the program continues at the owned contents. -/
theorem load_whole {cs : CoreSpace} {s : Shape} {e : EltTy} {M : Memref sig .tc cs s e} {off : Fin s.rank → Nat}
    (h : off = fun _ => 0) {inb : ∀ a, off a + s.size a ≤ s.size a} {hl : M.view.LoadsAt (Rect.unit off s.size inb).toLoadRect}
    {X : s.Idx → Val e} {k : (s.Idx → Val e) → Prog (TpuEff nD τ sig Val Λ .tc) α} {Q : α → sProp 𝕄} :
    owns (c : Thread nD τ) M fullShare X
      ⊢ iprop((owns (c : Thread nD τ) M fullShare X -∗ wp frame (wpE defs 𝒱 (c : Thread nD τ) bd) E (k X) Q)
        -∗ wp frame (wpE defs 𝒱 (c : Thread nD τ) bd) E (.op (.load M (Rect.unit off s.size inb).toLoadRect hl) k) Q) := by
  have e : (fun j => X ((Rect.unit off s.size inb).emb j)) = X := funext fun j => congrArg X (emb_whole h inb j)
  have := load defs 𝒱 c bd E (M := M) (r := Rect.unit off s.size inb) (hl := hl) (X := X) (k := k) (Q := Q)
  rw [e] at this
  exact this

/-- An unmasked store over the whole of an owned memref: the program continues with it owned at what was stored. -/
theorem store_whole {cs : CoreSpace} {s : Shape} {e : EltTy} {M : Memref sig .tc cs s e} {off : Fin s.rank → Nat}
    (h : off = fun _ => 0) {inb : ∀ a, off a + s.size a ≤ s.size a} {w : s.Idx → Val e}
    {hx : (M.access (Rect.unit off s.size inb)).Stores Finset.univ}
    {hm : (Finset.univ : Finset (Rect.unit off s.size inb).shape.Idx) = Finset.univ ∨ ∀ a, (Rect.unit off s.size inb).stride a = 1}
    {X : s.Idx → Val e} {k : PUnit → Prog (TpuEff nD τ sig Val Λ .tc) α} {Q : α → sProp 𝕄} :
    owns (c : Thread nD τ) M fullShare X
      ⊢ iprop((owns (c : Thread nD τ) M fullShare w -∗ wp frame (wpE defs 𝒱 (c : Thread nD τ) bd) E (k ⟨⟩) Q)
        -∗ wp frame (wpE defs 𝒱 (c : Thread nD τ) bd) E (.op (.store M (Rect.unit off s.size inb) w Finset.univ hx hm) k) Q) := by
  have := store defs 𝒱 c bd E (M := M) (r := Rect.unit off s.size inb) (w := w) (hx := hx) (hm := hm) (X := X) (k := k) (Q := Q)
  rw [overlay_whole h inb X w] at this
  exact this

end Cert.Own

end
-- ==== Proof.Words.lean ====
/-
  The word arithmetic of the two segment sums: the smallest and largest id of a block as the kernels fold them, and
  the window's start, the smallest id rounded down to a multiple of the window's height.
-/
module

public import Idealize.ShloMosaic.PureOps.Reduce
public import Idealize.ShloMosaic.Lib.Tactic

@[expose] public section

namespace Cert.Words

open Idealize.ShloMosaic

/-- The signed maximum of two words is their maximum as integers. -/
theorem toInt_max (a b : BitVec 32) : (IntOp.maxsi a b).toInt = max a.toInt b.toInt := by
  unfold IntOp.maxsi
  split
  · rename_i h; rw [BitVec.slt_iff_toInt_lt] at h; omega
  · rename_i h; rw [BitVec.slt_iff_toInt_lt] at h; omega

/-- The signed minimum of two words is their minimum as integers. -/
theorem toInt_min (a b : BitVec 32) : (IntOp.minsi a b).toInt = min a.toInt b.toInt := by
  unfold IntOp.minsi
  split
  · rename_i h; rw [BitVec.slt_iff_toInt_lt] at h; omega
  · rename_i h; rw [BitVec.slt_iff_toInt_lt] at h; omega

/-- A running maximum bounds its start and every word met, and is one of them. -/
theorem foldl_max {ι : Type} (g : ι → BitVec 32) (L : List ι) : ∀ init : BitVec 32,
    init.toInt ≤ (L.foldl (fun r n => IntOp.maxsi r (g n)) init).toInt
      ∧ (∀ n ∈ L, (g n).toInt ≤ (L.foldl (fun r n => IntOp.maxsi r (g n)) init).toInt)
      ∧ ((L.foldl (fun r n => IntOp.maxsi r (g n)) init).toInt = init.toInt
          ∨ ∃ n ∈ L, (L.foldl (fun r n => IntOp.maxsi r (g n)) init).toInt = (g n).toInt) := by
  induction L with
  | nil => intro init; simp
  | cons a L ih =>
    intro init
    obtain ⟨h1, h2, h3⟩ := ih (IntOp.maxsi init (g a))
    rw [toInt_max] at h1 h3
    simp only [List.foldl_cons, List.forall_mem_cons, List.exists_mem_cons_iff]
    refine ⟨by omega, ⟨by omega, h2⟩, ?_⟩
    rcases h3 with h3 | h3
    · rcases le_total init.toInt (g a).toInt with h | h
      · exact .inr (.inl (by omega))
      · exact .inl (by omega)
    · exact .inr (.inr h3)

/-- A running minimum is bounded by its start and by every word met, and is one of them. -/
theorem foldl_min {ι : Type} (g : ι → BitVec 32) (L : List ι) : ∀ init : BitVec 32,
    (L.foldl (fun r n => IntOp.minsi r (g n)) init).toInt ≤ init.toInt
      ∧ (∀ n ∈ L, (L.foldl (fun r n => IntOp.minsi r (g n)) init).toInt ≤ (g n).toInt)
      ∧ ((L.foldl (fun r n => IntOp.minsi r (g n)) init).toInt = init.toInt
          ∨ ∃ n ∈ L, (L.foldl (fun r n => IntOp.minsi r (g n)) init).toInt = (g n).toInt) := by
  induction L with
  | nil => intro init; simp
  | cons a L ih =>
    intro init
    obtain ⟨h1, h2, h3⟩ := ih (IntOp.minsi init (g a))
    rw [toInt_min] at h1 h3
    simp only [List.foldl_cons, List.forall_mem_cons, List.exists_mem_cons_iff]
    refine ⟨by omega, ⟨by omega, h2⟩, ?_⟩
    rcases h3 with h3 | h3
    · rcases le_total init.toInt (g a).toInt with h | h
      · exact .inl (by omega)
      · exact .inr (.inl (by omega))
    · exact .inr (.inr h3)

/-- A small word is its value as an integer. -/
theorem toInt_small {x : BitVec 32} (h : x.toNat < 4096) : x.toInt = x.toNat := by
  rw [BitVec.toInt_eq_toNat_cond]; split <;> omega

/-- A word whose integer lies in the ids' range is that number. -/
theorem toNat_of_toInt {x : BitVec 32} {k : ℕ} (hk : k < 4096) (h : x.toInt = k) : x.toNat = k := by
  rw [BitVec.toInt_eq_toNat_cond] at h
  have := x.isLt
  split at h <;> omega

variable {s t : Shape} {axes : List (Fin s.rank)}

/-- The largest of ids below 4096, folded to a shape of one element: it is below 4096 and bounds every id. -/
theorem max_of_ids (src : IVec s 32) (acc : BitVec 32) (h : s.Reduces axes t) (ht : ∀ b, t.size b = 1)
    (hacc : acc = IKind.maxsi.neutral) (j : t.Idx) (i₀ : s.Idx) (hs : ∀ i, (src i).toNat < 4096) :
    (multiReductionI .maxsi axes t src acc h hacc j).toNat < 4096
      ∧ ∀ i, (src i).toNat ≤ (multiReductionI .maxsi axes t src acc h hacc j).toNat := by
  have hd : ∀ i : s.Idx, h.drop i = j := fun i => funext fun b => Fin.ext (by
    have := (h.drop i b).isLt; have := (j b).isLt; have := ht b; omega)
  have hmem : ∀ i : s.Idx, s.rowMajor i ∈ (List.finRange s.numel).filter fun n => h.drop (s.rowMajor.symm n) = j :=
    fun i => List.mem_filter.2 ⟨List.mem_finRange _, by simp [hd]⟩
  have e : multiReductionI .maxsi axes t src acc h hacc j
      = ((List.finRange s.numel).filter fun n => h.drop (s.rowMajor.symm n) = j).foldl
          (fun r n => IntOp.maxsi r (src (s.rowMajor.symm n))) acc := rfl
  obtain ⟨-, h2, h3⟩ := foldl_max (fun n => src (s.rowMajor.symm n))
    ((List.finRange s.numel).filter fun n => h.drop (s.rowMajor.symm n) = j) acc
  rw [← e] at h2 h3
  have hge : ∀ i, ((src i).toNat : ℤ) ≤ (multiReductionI .maxsi axes t src acc h hacc j).toInt := fun i => by
    have := h2 _ (hmem i)
    simp only [Equiv.symm_apply_apply] at this
    rwa [toInt_small (hs i)] at this
  have hk : ∃ n, (multiReductionI .maxsi axes t src acc h hacc j).toInt = (src n).toNat := by
    rcases h3 with h3 | ⟨n, -, h3⟩
    · exfalso
      have hn : acc.toInt < 0 := by rw [hacc]; decide
      have := hge i₀; omega
    · exact ⟨_, by rw [h3, toInt_small (hs _)]⟩
  obtain ⟨n, hn⟩ := hk
  have e2 := toNat_of_toInt (hs n) hn
  refine ⟨e2 ▸ hs n, fun i => ?_⟩
  have := hge i
  omega

/-- The smallest of ids below 4096, folded to a shape of one element: it is below 4096 and no id is below it. -/
theorem min_of_ids (src : IVec s 32) (acc : BitVec 32) (h : s.Reduces axes t) (ht : ∀ b, t.size b = 1)
    (hacc : acc = IKind.minsi.neutral) (j : t.Idx) (i₀ : s.Idx) (hs : ∀ i, (src i).toNat < 4096) :
    (multiReductionI .minsi axes t src acc h hacc j).toNat < 4096
      ∧ ∀ i, (multiReductionI .minsi axes t src acc h hacc j).toNat ≤ (src i).toNat := by
  have hd : ∀ i : s.Idx, h.drop i = j := fun i => funext fun b => Fin.ext (by
    have := (h.drop i b).isLt; have := (j b).isLt; have := ht b; omega)
  have hmem : ∀ i : s.Idx, s.rowMajor i ∈ (List.finRange s.numel).filter fun n => h.drop (s.rowMajor.symm n) = j :=
    fun i => List.mem_filter.2 ⟨List.mem_finRange _, by simp [hd]⟩
  have e : multiReductionI .minsi axes t src acc h hacc j
      = ((List.finRange s.numel).filter fun n => h.drop (s.rowMajor.symm n) = j).foldl
          (fun r n => IntOp.minsi r (src (s.rowMajor.symm n))) acc := rfl
  obtain ⟨-, h2, h3⟩ := foldl_min (fun n => src (s.rowMajor.symm n))
    ((List.finRange s.numel).filter fun n => h.drop (s.rowMajor.symm n) = j) acc
  rw [← e] at h2 h3
  have hge : ∀ i, (multiReductionI .minsi axes t src acc h hacc j).toInt ≤ ((src i).toNat : ℤ) := fun i => by
    have := h2 _ (hmem i)
    simp only [Equiv.symm_apply_apply] at this
    rwa [toInt_small (hs i)] at this
  have hk : ∃ n, (multiReductionI .minsi axes t src acc h hacc j).toInt = (src n).toNat := by
    rcases h3 with h3 | ⟨n, -, h3⟩
    · exfalso
      have hn : 4096 ≤ acc.toInt := by rw [hacc]; decide
      have := hge i₀; have := hs i₀; omega
    · exact ⟨_, by rw [h3, toInt_small (hs _)]⟩
  obtain ⟨n, hn⟩ := hk
  have e2 := toNat_of_toInt (hs n) hn
  refine ⟨e2 ▸ hs n, fun i => ?_⟩
  have := hge i
  omega

/-- A small word's signed quotient and remainder by a small positive divisor are the plain ones. -/
theorem div_rem_small {x d : BitVec 32} (h : x.toNat < 4096) (hd0 : 0 < d.toNat) (hd : d.toNat < 4096) :
    Scalar.divsi x d = BitVec.ofNat 32 (x.toNat / d.toNat) ∧ Scalar.remsi x d = BitVec.ofNat 32 (x.toNat % d.toNat) := by
  have hxm : x.msb = false := by rw [BitVec.msb_eq_false_iff_two_mul_lt]; omega
  have hdm : d.msb = false := by rw [BitVec.msb_eq_false_iff_two_mul_lt]; omega
  have hc : ¬ IntOp.SDivCorner x d := by
    rintro (e | ⟨-, e⟩)
    · rw [e] at hd0; simp at hd0
    · rw [e] at hd; exact absurd hd (by decide)
  constructor
  · show IntOp.divsi _ x d = _
    unfold IntOp.divsi
    rw [if_neg hc, BitVec.sdiv_eq, hxm, hdm]
    apply BitVec.eq_of_toNat_eq
    show (x / d).toNat = _
    rw [BitVec.toNat_udiv, BitVec.toNat_ofNat, Nat.mod_eq_of_lt (lt_of_le_of_lt (Nat.div_le_self _ _) (by omega))]
  · show IntOp.remsi _ x d = _
    unfold IntOp.remsi
    rw [if_neg hc, BitVec.srem_eq, hxm, hdm]
    apply BitVec.eq_of_toNat_eq
    show (x % d).toNat = _
    rw [BitVec.toNat_umod, BitVec.toNat_ofNat, Nat.mod_eq_of_lt (lt_of_le_of_lt (Nat.mod_le _ _) (by omega))]

/-- The signs of a small word and of a positive one, as the kernels compute them, differ only at zero. -/
theorem sign_small {x : BitVec 32} (h : x.toNat < 4096) :
    Scalar.subi (Scalar.extui (Scalar.cmpi .sgt x 0#32)) (Scalar.extui (Scalar.cmpi .slt x 0#32))
      = if x.toNat = 0 then 0#32 else 1#32 := by
  have h1 : Scalar.cmpi .slt x 0#32 = 0#1 := by
    show BitVec.ofBool (x.slt 0#32) = _
    have : x.slt 0#32 = false := by
      rw [Bool.eq_false_iff, Ne, BitVec.slt_iff_toInt_lt, toInt_small h]; simp
    rw [this]; rfl
  rw [h1]
  split
  · rename_i h0
    have : x = 0#32 := BitVec.eq_of_toNat_eq (by simpa using h0)
    subst this; decide
  · rename_i h0
    have : Scalar.cmpi .sgt x 0#32 = 1#1 := by
      show BitVec.ofBool ((0#32 : BitVec 32).slt x) = _
      have : (0#32 : BitVec 32).slt x = true := by
        rw [BitVec.slt_iff_toInt_lt, toInt_small h]; simp; omega
      rw [this]; rfl
    rw [this]; decide

/-- The floor division the kernels compute for a window's start: at a small word it is the plain quotient. -/
theorem floor_small {x d : BitVec 32} (h : x.toNat < 4096) (hd0 : 0 < d.toNat) (hd : d.toNat < 4096) :
    Scalar.select
        (Scalar.andi
          (Scalar.cmpi .ne
            (Scalar.subi (Scalar.extui (Scalar.cmpi .sgt x 0#32)) (Scalar.extui (Scalar.cmpi .slt x 0#32)))
            (Scalar.subi (Scalar.extui (Scalar.cmpi .sgt d 0#32)) (Scalar.extui (Scalar.cmpi .slt d 0#32))))
          (Scalar.cmpi .ne (Scalar.remsi x d) 0#32))
        (Scalar.subi (Scalar.divsi x d) 1#32) (Scalar.divsi x d)
      = BitVec.ofNat 32 (x.toNat / d.toNat) := by
  rw [sign_small h, sign_small hd, if_neg (by omega : ¬ d.toNat = 0), (div_rem_small h hd0 hd).1, (div_rem_small h hd0 hd).2]
  by_cases h0 : x.toNat = 0
  · rw [h0]; simp [Scalar.select, Scalar.andi, IntOp.andi, Scalar.cmpi, IntOp.cmpi]
  · rw [if_neg h0]; simp [Scalar.select, Scalar.andi, IntOp.andi, Scalar.cmpi, IntOp.cmpi]

/-- A window's start times the window's height, as a word. -/
theorem mul_small (q d : ℕ) (_h : q * d < 8192) : Scalar.muli (BitVec.ofNat 32 q) (BitVec.ofNat 32 d) = BitVec.ofNat 32 (d * q) := by
  show BitVec.ofNat 32 q * BitVec.ofNat 32 d = _
  rw [← BitVec.ofNat_mul, Nat.mul_comm]

/-- The next window's start: `w` groups of eight rows further. -/
theorem add_small (q w d : ℕ) (hd : d = 8 * w) :
    Scalar.addi (BitVec.ofNat 32 (8 * q)) (BitVec.ofNat 32 d) = BitVec.ofNat 32 (8 * (q + w)) := by
  show BitVec.ofNat 32 (8 * q) + BitVec.ofNat 32 d = _
  rw [← BitVec.ofNat_add, Nat.mul_add, hd]

/-- The loop's test at small words: the window starts at or below the largest id. -/
theorem sle_small {x y : BitVec 32} (hx : x.toNat < 8192) (hy : y.toNat < 4096) :
    Scalar.cmpi .sle x y = 1#1 ↔ x.toNat ≤ y.toNat := by
  have hx' : x.toInt = x.toNat := by rw [BitVec.toInt_eq_toNat_cond]; split <;> omega
  show BitVec.ofBool (x.sle y) = 1#1 ↔ _
  rw [show (BitVec.ofBool (x.sle y) = 1#1 ↔ x.sle y = true) by cases x.sle y <;> simp, BitVec.sle_iff_toInt_le, hx',
    toInt_small hy]
  omega

end Cert.Words
-- ==== Proof.PI.Body0.lean ====
/-
  The bonds' segment sum, one grid point (custom_call 0): what its windows add to the sums and to the counts, as
  functions of the block's ids and data, and the body's triple over owned memrefs at those functions.
-/
module

public import proofs.«01_k».proof.Proof.Own
public import proofs.«01_k».proof.Proof.Words
public import proofs.«01_k».proof.Proof.Gen.KernelIdeal
public import proofs.«01_k».proof.Proof.Gen.KernelIdeal.Skeleton

@[expose] public section

noncomputable section

namespace Cert.KernelIdeal.Body0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The loops' variants: the windows still to run. -/
abbrev 𝒱₀ : Variants := Variants.nat

/-! ## What one window adds -/

/-- The sums after the window of rows from `a`: its rows replaced by themselves plus the block's rows whose id is theirs. -/
def stepS (ids : IVec S1x2000 32) (D : Vec F S2000x16 .f32) (a : BitVec 32) (A : Vec F S4104x16 .f32) : Vec F S4104x16 .f32 :=
  if h : k0_chk1 a then
    (Rect.unit (s := S4104x16) (k0_off1 a) S8x16.size (k0_off1_inb a h)).overlay A
      (k0_pay7 ids D a fun j => A ((Rect.unit (s := S4104x16) (k0_off1 a) S8x16.size (k0_off1_inb a h)).emb j))
  else A

/-- The counts after the window of rows from `a`: its rows plus how many of the block's ids are theirs. -/
def stepC (ids : IVec S1x2000 32) (a : BitVec 32) (B : Vec F S4104x8 .f32) : Vec F S4104x8 .f32 :=
  if h : k0_chk1 a then
    (Rect.unit (s := S4104x8) (k0_off2 a) S8x8.size (k0_off2_inb a h)).overlay B
      (k0_pay8 ids a fun j => B ((Rect.unit (s := S4104x8) (k0_off2 a) S8x8.size (k0_off2_inb a h)).emb j))
  else B

/-- The sums after `n` windows, the first from row `8 * q`. -/
def iterS (ids : IVec S1x2000 32) (D : Vec F S2000x16 .f32) : ℕ → ℕ → Vec F S4104x16 .f32 → Vec F S4104x16 .f32
  | 0, _, A => A
  | n + 1, q, A => iterS ids D n (q + 1) (stepS ids D (BitVec.ofNat 32 (8 * q)) A)

/-- The counts after `n` windows, the first from row `8 * q`. -/
def iterC (ids : IVec S1x2000 32) : ℕ → ℕ → Vec F S4104x8 .f32 → Vec F S4104x8 .f32
  | 0, _, B => B
  | n + 1, q, B => iterC ids n (q + 1) (stepC ids (BitVec.ofNat 32 (8 * q)) B)

/-- The block's smallest id, -/
def lo (X : Vec F S1x1x2000 .i32) : BitVec 32 := extractAt ![0, 0, 0] (k0_pay4 X) inpos_S1x1x1_p0_0_0
/-- and its largest. -/
def hi (X : Vec F S1x1x2000 .i32) : BitVec 32 := extractAt ![0, 0, 0] (k0_pay5 X) inpos_S1x1x1_p0_0_0

/-- The group of eight rows the loop starts at, -/
def first (X : Vec F S1x1x2000 .i32) : ℕ := (lo X).toNat / 8
/-- and how many windows it runs. -/
def trips (X : Vec F S1x1x2000 .i32) : ℕ := ((hi X).toNat / 8 + 1 - (lo X).toNat / 8) / 1

/-- What a grid point leaves in the sums, from what it found there. -/
def outS (z : Bool) (X : Vec F S1x1x2000 .i32) (D : Vec F S2000x16 .f32) (A : Vec F S4104x16 .f32) : Vec F S4104x16 .f32 :=
  iterS (k0_pay3 X) D (trips X) (first X) (if z then k0_pay1 else A)

/-- What a grid point leaves in the counts. -/
def outC (z : Bool) (X : Vec F S1x1x2000 .i32) (B : Vec F S4104x8 .f32) : Vec F S4104x8 .f32 :=
  iterC (k0_pay3 X) (trips X) (first X) (if z then k0_pay2 else B)

/-- The smallest and largest id of a block of ids below 4096 are below 4096 and bound the ids. -/
theorem lo_hi (X : Vec F S1x1x2000 .i32) (hX : ∀ i, (X i : BitVec 32).toNat < 4096) :
    (lo X).toNat < 4096 ∧ (hi X).toNat < 4096 ∧ ∀ i, (lo X).toNat ≤ (k0_pay3 X i).toNat ∧ (k0_pay3 X i).toNat ≤ (hi X).toNat := by
  have h3 : ∀ i, (shapeCast S1x1x2000 (k0_pay3 X) shapeCasts_S1x2000_S1x1x2000 i).toNat < 4096 := fun i => hX _
  have i₀ : S1x1x2000.Idx := Shape.Idx.first (by decide)
  obtain ⟨a1, a2⟩ := Cert.Words.min_of_ids (shapeCast S1x1x2000 (k0_pay3 X) shapeCasts_S1x2000_S1x1x2000) 2147483647#32
    reduces_S1x1x2000_S1 (fun b => by fin_cases b; rfl) rfl
    (Shape.reshapeEquiv shapeCasts_S1_S1x1x1 fun a => ⟨(![0, 0, 0] : Fin 3 → ℕ) a, inpos_S1x1x1_p0_0_0 a⟩) i₀ h3
  obtain ⟨b1, b2⟩ := Cert.Words.max_of_ids (shapeCast S1x1x2000 (k0_pay3 X) shapeCasts_S1x2000_S1x1x2000) 2147483648#32
    reduces_S1x1x2000_S1 (fun b => by fin_cases b; rfl) rfl
    (Shape.reshapeEquiv shapeCasts_S1_S1x1x1 fun a => ⟨(![0, 0, 0] : Fin 3 → ℕ) a, inpos_S1x1x1_p0_0_0 a⟩) i₀ h3
  refine ⟨a1, b1, fun i => ?_⟩
  have e : shapeCast S1x1x2000 (k0_pay3 X) shapeCasts_S1x2000_S1x1x2000 ((Shape.reshapeEquiv shapeCasts_S1x2000_S1x1x2000).symm i)
      = k0_pay3 X i := congrArg (k0_pay3 X) (Equiv.apply_symm_apply _ i)
  rw [← e]
  exact ⟨a2 _, b2 _⟩

/-! ## The loop -/

/-- A window of rows below 4096 passes the body's check. -/
theorem chk {q : ℕ} (h : 8 * q < 4096) : k0_chk1 (BitVec.ofNat 32 (8 * q)) := by
  have e : (BitVec.ofNat 32 (8 * q)).toNat = 8 * q := by rw [BitVec.toNat_ofNat]; omega
  refine ⟨?_, ?_, ?_⟩
  · show 8 ∣ (BitVec.ofNat 32 (8 * q)).toNat
    rw [e]; exact ⟨1 * q, by omega⟩
  · intro a
    fin_cases a
    · show (BitVec.ofNat 32 (8 * q)).toNat + 8 ≤ 4104
      omega
    · show 0 + 16 ≤ 16
      omega
  · intro a
    fin_cases a
    · show (BitVec.ofNat 32 (8 * q)).toNat + 8 ≤ 4104
      omega
    · show 0 + 8 ≤ 8
      omega

/-- The loop from row `8 * q` with `n` windows to run: the sums and the counts go through those windows. -/
theorem loop (c : Dev nD) (E : Set ℕ) (i : grid0.Coords) (ids : IVec S1x2000 32) (D : Vec F S2000x16 .f32)
    (M3 : Memref sig .tc .vmem S4104x16 .f32) (h3 : M3.IsWhole) (M4 : Memref sig .tc .vmem S4104x8 .f32) (h4 : M4.IsWhole)
    (v : BitVec 32) (hv : v.toNat < 4096) :
    ∀ (n q : ℕ), q ≤ 520 → n = (v.toNat / 8 + 1 - q) / 1 → ∀ (A : Vec F S4104x16 .f32) (B : Vec F S4104x8 .f32) (K : BitVec 32 → sProp 𝕄),
    iprop(owns (c : Thread nD τ) M3 fullShare A ∗ owns (c : Thread nD τ) M4 fullShare B
        ∗ ∀ r, (owns (c : Thread nD τ) M3 fullShare (iterS ids D n q A) ∗ owns (c : Thread nD τ) M4 fullShare (iterC ids n q B)) -∗ K r)
      ⊢ wp frame (wpE (defs₀ (F := F)) 𝒱₀ (c : Thread nD τ) (some n)) E
          (defs₀ (F := F) .tc (3 : (Λ₀ F).Label) ⟨i, v, ids, D, M3, h3, M4, h4, BitVec.ofNat 32 (8 * q)⟩) K := by
  intro n
  induction n with
  | zero =>
    intro q hq hn A B K
    show _ ⊢ wp frame (wpE (defs₀ (F := F)) 𝒱₀ (c : Thread nD τ) (some 0)) E (cc0_while1 i v ids D M3 h3 M4 h4 (BitVec.ofNat 32 (8 * q))) K
    have e : (BitVec.ofNat 32 (8 * q)).toNat = 8 * q := by rw [BitVec.toNat_ofNat]; omega
    have ht : ¬ Scalar.cmpi .sle (BitVec.ofNat 32 (8 * q)) v = 1#1 := by
      rw [Cert.Words.sle_small (by omega) hv]; omega
    simp only [cc0_while1_eq_skeleton]; unfold cc0_while1_skel
    simp only [if_neg ht, Prog.pure_eq_ret]
    iintro ⟨H3, H4, Hk⟩
    rw [wp_ret]; imodintro
    iapply Hk
    isplitl [H3]; · iexact H3
    iexact H4
  | succ n ih =>
    intro q hq hn A B K
    show _ ⊢ wp frame (wpE (defs₀ (F := F)) 𝒱₀ (c : Thread nD τ) (some (n + 1))) E (cc0_while1 i v ids D M3 h3 M4 h4 (BitVec.ofNat 32 (8 * q))) K
    have e : (BitVec.ofNat 32 (8 * q)).toNat = 8 * q := by rw [BitVec.toNat_ofNat]; omega
    have ht : Scalar.cmpi .sle (BitVec.ofNat 32 (8 * q)) v = 1#1 := by
      rw [Cert.Words.sle_small (by omega) hv]; omega
    have hc : k0_chk1 (BitVec.ofNat 32 (8 * q)) := chk (by omega)
    have hn' : n = (v.toNat / 8 + 1 - (q + 1)) / 1 := by omega
    simp only [cc0_while1_eq_skeleton]; unfold cc0_while1_skel
    simp only [if_pos ht, Prog.lift, Prog.bind_op, Prog.bind_ret, Prog.pure_eq_ret]
    iintro ⟨H3, H4, Hk⟩
    iapply (wp_assume 𝒱₀ (c : Thread nD τ) (some (n + 1)) E hc)
    iapply (Cert.Own.load defs₀ 𝒱₀ c (some (n + 1)) E) $$ H3; iintro H3
    iapply (Cert.Own.load defs₀ 𝒱₀ c (some (n + 1)) E) $$ H3; iintro H3
    iapply (Cert.Own.store defs₀ 𝒱₀ c (some (n + 1)) E) $$ H3; iintro H3
    iapply (Cert.Own.load defs₀ 𝒱₀ c (some (n + 1)) E) $$ H4; iintro H4
    iapply (Cert.Own.load defs₀ 𝒱₀ c (some (n + 1)) E) $$ H4; iintro H4
    iapply (Cert.Own.store defs₀ 𝒱₀ c (some (n + 1)) E) $$ H4; iintro H4
    rw [Cert.Words.add_small q 1 8 rfl]
    iapply (wp_call 𝒱₀ (c : Thread nD τ) (some (n + 1)) E n (fun u hu => by cases hu; exact Nat.lt_succ_self n))
    iapply (ih (q + 1) (by omega) hn' (stepS ids D (BitVec.ofNat 32 (8 * q)) A) (stepC ids (BitVec.ofNat 32 (8 * q)) B) _)
    isplitl [H3]
    · rw [stepS, dif_pos hc]; iexact H3
    isplitl [H4]
    · rw [stepC, dif_pos hc]; iexact H4
    iintro %r ⟨H3, H4⟩
    rw [wp_ret]; imodintro
    iapply Hk
    isplitl [H3]; · iexact H3
    iexact H4

/-! ## The body -/

/-- The word the loop starts at is the first window's row. -/
theorem start (x : BitVec 32) (h : x.toNat < 4096) :
    Scalar.muli
        (Scalar.select
          (Scalar.andi
            (Scalar.cmpi .ne
              (Scalar.subi (Scalar.extui (Scalar.cmpi .sgt x 0#32)) (Scalar.extui (Scalar.cmpi .slt x 0#32)))
              (Scalar.subi (Scalar.extui (Scalar.cmpi .sgt 8#32 0#32)) (Scalar.extui (Scalar.cmpi .slt 8#32 0#32))))
            (Scalar.cmpi .ne (Scalar.remsi x 8#32) 0#32))
          (Scalar.subi (Scalar.divsi x 8#32) 1#32) (Scalar.divsi x 8#32)) 8#32
      = BitVec.ofNat 32 (8 * (x.toNat / 8)) := by
  rw [Cert.Words.floor_small h (by decide) (by decide)]
  exact Cert.Words.mul_small (x.toNat / 8) 8 (by omega)

/-- The test for the first grid point. -/
theorem isFirst (n : ℕ) (h : n < 800) :
    Scalar.cmpi .ne (Scalar.extui (Scalar.cmpi .eq (BitVec.ofNat 32 n) 0#32)) 0#32 = 1#1 ↔ n = 0 := by
  by_cases h0 : n = 0
  · subst h0; decide
  · have : (BitVec.ofNat 32 n == 0#32) = false := by
      rw [beq_eq_false_iff_ne]
      intro e
      have := congrArg BitVec.toNat e
      rw [BitVec.toNat_ofNat] at this
      simp at this
      omega
    have e : Scalar.cmpi .eq (BitVec.ofNat 32 n) 0#32 = 0#1 := by
      show BitVec.ofBool (BitVec.ofNat 32 n == 0#32) = _
      rw [this]; rfl
    rw [e]
    exact iff_of_false (by decide) h0

theorem zero3 : (![0, 0, 0] : Fin 3 → ℕ) = fun _ => 0 := by funext a; fin_cases a <;> rfl
theorem zero2 : (![0, 0] : Fin 2 → ℕ) = fun _ => 0 := by funext a; fin_cases a <;> rfl

/-- The body at a grid point, its four operands owned: the ids and the data are read, the sums and the counts go to
    what the point leaves in them; at the first point they start from zero. -/
theorem body (c : Dev nD) (E : Set ℕ) (i : grid0.Coords)
    (M1 : Memref sig .tc .vmem S1x1x2000 .i32) (h1 : M1.IsWhole) (M2 : Memref sig .tc .vmem S2000x16 .f32) (h2 : M2.IsWhole)
    (M3 : Memref sig .tc .vmem S4104x16 .f32) (h3 : M3.IsWhole) (M4 : Memref sig .tc .vmem S4104x8 .f32) (h4 : M4.IsWhole)
    (X : Vec F S1x1x2000 .i32) (hX : ∀ i, (X i : BitVec 32).toNat < 4096) (D : Vec F S2000x16 .f32)
    (A : Vec F S4104x16 .f32) (B : Vec F S4104x8 .f32) (K : PUnit → sProp 𝕄) :
    iprop(owns (c : Thread nD τ) M1 fullShare X ∗ owns (c : Thread nD τ) M2 fullShare D
        ∗ owns (c : Thread nD τ) M3 fullShare A ∗ owns (c : Thread nD τ) M4 fullShare B
        ∗ ((owns (c : Thread nD τ) M1 fullShare X ∗ owns (c : Thread nD τ) M2 fullShare D
            ∗ owns (c : Thread nD τ) M3 fullShare (outS (decide ((i 0).val = 0)) X D A)
            ∗ owns (c : Thread nD τ) M4 fullShare (outC (decide ((i 0).val = 0)) X B)) -∗ K ⟨⟩))
      ⊢ wp frame (wpE (defs₀ (F := F)) 𝒱₀ (c : Thread nD τ) none) E
          (cc0__segsum_body i M1 h1 M2 h2 M3 h3 M4 h4) K := by
  obtain ⟨hlo, hhi, -⟩ := lo_hi X hX
  simp only [cc0__segsum_body_eq_skeleton]; unfold cc0__segsum_body_skel
  by_cases h0 : (i 0).val = 0
  · have ht := (isFirst (i 0).val (i 0).isLt).2 h0
    simp only [dif_pos ht, Prog.lift, Prog.bind_op, Prog.bind_ret, Prog.pure_eq_ret, outS, outC, decide_eq_true h0, if_true]
    iintro ⟨H1, H2, H3, H4, Hk⟩
    iapply (Cert.Own.load_whole defs₀ 𝒱₀ c none E zero2) $$ H3; iintro H3
    iapply (Cert.Own.store_whole defs₀ 𝒱₀ c none E zero2) $$ H3; iintro H3
    iapply (Cert.Own.load_whole defs₀ 𝒱₀ c none E zero2) $$ H4; iintro H4
    iapply (Cert.Own.store_whole defs₀ 𝒱₀ c none E zero2) $$ H4; iintro H4
    iapply (Cert.Own.load_whole (s := S1x1x2000) defs₀ 𝒱₀ c none E zero3) $$ H1; iintro H1
    iapply (Cert.Own.load_whole (s := S2000x16) defs₀ 𝒱₀ c none E zero2) $$ H2; iintro H2
    rw [show extractAt ![0, 0, 0] (k0_pay4 X) inpos_S1x1x1_p0_0_0 = lo X from rfl,
      show extractAt ![0, 0, 0] (k0_pay5 X) inpos_S1x1x1_p0_0_0 = hi X from rfl, start (lo X) hlo,
      show (lo X).toNat / 8 = first X from rfl]
    have hq : first X ≤ 520 := by unfold first; omega
    have hn : trips X = ((hi X).toNat / 8 + 1 - first X) / 1 := by unfold trips first; omega
    revert hq hn hhi
    generalize first X = q, trips X = n, hi X = v, k0_pay3 X = ids
    intro hhi hq hn
    iapply (wp_call 𝒱₀ (c : Thread nD τ) none E n (fun u hu => nomatch hu))
    iapply (loop c E i ids D M3 h3 M4 h4 v hhi n q hq hn k0_pay1 k0_pay2 _)
    isplitl [H3]; · iexact H3
    isplitl [H4]; · iexact H4
    iintro %r ⟨H3, H4⟩
    rw [wp_ret]; imodintro
    iapply Hk
    isplitl [H1]; · iexact H1
    isplitl [H2]; · iexact H2
    isplitl [H3]; · iexact H3
    iexact H4
  · have ht := mt (isFirst (i 0).val (i 0).isLt).1 h0
    simp only [dif_neg ht, Prog.lift, Prog.bind_op, Prog.bind_ret, Prog.pure_eq_ret, outS, outC, decide_eq_false h0,
      Bool.false_eq_true, if_false]
    iintro ⟨H1, H2, H3, H4, Hk⟩
    iapply (Cert.Own.load_whole (s := S1x1x2000) defs₀ 𝒱₀ c none E zero3) $$ H1; iintro H1
    iapply (Cert.Own.load_whole (s := S2000x16) defs₀ 𝒱₀ c none E zero2) $$ H2; iintro H2
    rw [show extractAt ![0, 0, 0] (k0_pay4 X) inpos_S1x1x1_p0_0_0 = lo X from rfl,
      show extractAt ![0, 0, 0] (k0_pay5 X) inpos_S1x1x1_p0_0_0 = hi X from rfl, start (lo X) hlo,
      show (lo X).toNat / 8 = first X from rfl]
    have hq : first X ≤ 520 := by unfold first; omega
    have hn : trips X = ((hi X).toNat / 8 + 1 - first X) / 1 := by unfold trips first; omega
    revert hq hn hhi
    generalize first X = q, trips X = n, hi X = v, k0_pay3 X = ids
    intro hhi hq hn
    iapply (wp_call 𝒱₀ (c : Thread nD τ) none E n (fun u hu => nomatch hu))
    iapply (loop c E i ids D M3 h3 M4 h4 v hhi n q hq hn A B _)
    isplitl [H3]; · iexact H3
    isplitl [H4]; · iexact H4
    iintro %r ⟨H3, H4⟩
    rw [wp_ret]; imodintro
    iapply Hk
    isplitl [H1]; · iexact H1
    isplitl [H2]; · iexact H2
    isplitl [H3]; · iexact H3
    iexact H4

end Cert.KernelIdeal.Body0

end
-- ==== Proof.PI.Region0.lean ====
/-
  The bonds' segment sum, the region (custom_call 0): what its grid accumulates, entered from any contents of the
  buffers; the pipeline's proof data at those accumulators; the library's body obligation; and what the two result
  arrays hold when the region is left. The two results' blocks are whole and stay in place from point to point, so they
  are written back once, at the last point.
-/
module

public import proofs.«01_k».proof.Proof.PI.Body0
public import proofs.«01_k».proof.Proof.Gen.KernelIdeal.Launch
public import proofs.«01_k».proof.Proof.Gen.KernelIdeal.Points
public import Idealize.ShloMosaic.Lib.Tactic
public import Idealize.ShloMosaic.Lib.Pipeline.ValueKit.Geometry

@[expose] public section

noncomputable section

namespace Cert.KernelIdeal.Region0

open Cert.KernelIdeal Cert.KernelIdeal.Gen Cert.KernelIdeal.Body0
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

/-- The buffers' contents when the region is entered. -/
abbrev Vals (F : FTy → Type) [FloatOps F] : Type := (c : Dev nD) → (b : Ref sig .tc) → Buf (Elt F) ((c : Thread nD τ).loc b)

/-! ## What the grid accumulates -/

/-- The grid's point of a number. -/
def at' (n : ℕ) : Fin grid0.N := ⟨n % 800, by rw [N_0]; exact Nat.mod_lt _ (by decide)⟩

theorem at'_val (t : Fin grid0.N) : at' t.val = t :=
  Fin.ext (Nat.mod_eq_of_lt (lt_of_lt_of_eq t.isLt N_0))

/-- The ids' block of a point, -/
def ids (V : Vals F) (c : Dev nD) (t : Fin grid0.N) : Vec F S1x1x2000 .i32 :=
  ((cfg0 (F := F)).win 0 |>.blk t).view.read (Elt F) (V c main_v0)

/-- and the data's. -/
def data (V : Vals F) (c : Dev nD) (t : Fin grid0.N) : Vec F S2000x16 .f32 :=
  ((cfg0 (F := F)).win 1 |>.blk t).view.read (Elt F) (V c main_arg1)

/-- The sums after the first `n + 1` points, -/
def accS (V : Vals F) (c : Dev nD) : ℕ → Vec F S4104x16 .f32
  | 0 => outS true (ids V c (at' 0)) (data V c (at' 0)) k0_pay1
  | n + 1 => outS false (ids V c (at' (n + 1))) (data V c (at' (n + 1))) (accS V c n)

/-- and the counts. -/
def accC (V : Vals F) (c : Dev nD) : ℕ → Vec F S4104x8 .f32
  | 0 => outC true (ids V c (at' 0)) k0_pay2
  | n + 1 => outC false (ids V c (at' (n + 1))) (accC V c n)

/-! ## The pipeline's proof data -/

/-- Between points: the scoped buffers this pipeline does not stage, held at something. -/
abbrev Φc (c : Dev nD) : sProp 𝕄 :=
  Pipeline.scopedRest (Ix := Unit) (Name := ℕ) (U := U) (Lvl := ℕ) (Val := Elt F) spec0 c

/-- The proof data: the arrays as entered; a point leaves its two operands' blocks as fetched and the results'
    buffers at the accumulators. -/
def dat (V : Vals F) (c : Dev nD) : Dat τ (Elt F) Unit ℕ U ℕ (cfg0 (F := F)) c where
  A w := V c (Pipeline.arrRef spec0 w)
  after w t := match w with
    | ⟨0, _⟩ => ids V c t
    | ⟨1, _⟩ => data V c t
    | ⟨2, _⟩ => accS V c t.val
    | ⟨3, _⟩ => accC V c t.val
  Φ _ := Φc c
  q _ := fullShare
  owed _ := 0

variable (V : Vals F) (c : Dev nD)

/-- The ids' buffer holds the point's block when the body runs, -/
theorem before0 (t : Fin (cfg0 (F := F)).N) (d) : (dat (U := U) V c).before 0 t d = ids V c t := by
  rw [Dat.before_fetched _ 0 t (fetch0_0 t)]; rfl

/-- and so does the data's. -/
theorem before1 (t : Fin (cfg0 (F := F)).N) (d) : (dat (U := U) V c).before 1 t d = data V c t := by
  rw [Dat.before_fetched _ 1 t (fetch0_1 t)]; rfl

/-- A point before the last writes nothing back. -/
theorem noflush {n : ℕ} (hn : n + 1 < 800) : ¬ n % 800 = 799 := by omega

/-- The sums' buffer holds, after the first point, what the point before left. -/
theorem before2 (t : Fin (cfg0 (F := F)).N) (ht : t.val ≠ 0) (d) :
    (dat (U := U) V c).before 2 t d = accS V c (t.val - 1) := by
  have h8 : t.val < 800 := lt_of_lt_of_eq t.isLt N_0
  rw [Dat.before_out_kept _ 2 rfl t ht
    (Bool.eq_false_iff.2 fun h => noflush (n := t.val - 1) (by omega) ((flush0_2 _).1 h)) (fun _ => rfl) (fun _ _ => rfl)]
  rfl

/-- And the counts'. -/
theorem before3 (t : Fin (cfg0 (F := F)).N) (ht : t.val ≠ 0) (d) :
    (dat (U := U) V c).before 3 t d = accC V c (t.val - 1) := by
  have h8 : t.val < 800 := lt_of_lt_of_eq t.isLt N_0
  rw [Dat.before_out_kept _ 3 rfl t ht
    (Bool.eq_false_iff.2 fun h => noflush (n := t.val - 1) (by omega) ((flush0_3 _).1 h)) (fun _ => rfl) (fun _ _ => rfl)]
  rfl

/-- The coordinate of a point is its number. -/
theorem coord (t : Fin grid0.N) : (grid0.coords t 0).val = t.val := by
  rw [Pipeline.Grid.coords_val t 0 (S := 1) (B := 800) (by decide) rfl]
  have := lt_of_lt_of_eq t.isLt N_0
  omega

/-- What a point makes of the sums it finds is the accumulator of its number, -/
theorem stepS_eq (t : Fin (cfg0 (F := F)).N) (d) :
    outS (decide ((grid0.coords t 0).val = 0)) (ids V c t) (data V c t) ((dat (U := U) V c).before 2 t d) = accS V c t.val := by
  rw [coord]
  by_cases h : t.val = 0
  · rw [decide_eq_true h]
    obtain rfl : at' 0 = t := by rw [← h]; exact at'_val t
    rfl
  · rw [before2 V c t h, decide_eq_false h]
    obtain ⟨n, hn⟩ : ∃ n, t.val = n + 1 := ⟨t.val - 1, by omega⟩
    rw [hn, Nat.add_sub_cancel]
    obtain rfl : at' (n + 1) = t := by rw [← hn]; exact at'_val t
    rfl

/-- and likewise the counts'. -/
theorem stepC_eq (t : Fin (cfg0 (F := F)).N) (d) :
    outC (decide ((grid0.coords t 0).val = 0)) (ids V c t) ((dat (U := U) V c).before 3 t d) = accC V c t.val := by
  rw [coord]
  by_cases h : t.val = 0
  · rw [decide_eq_true h]
    obtain rfl : at' 0 = t := by rw [← h]; exact at'_val t
    rfl
  · rw [before3 V c t h, decide_eq_false h]
    obtain ⟨n, hn⟩ : ∃ n, t.val = n + 1 := ⟨t.val - 1, by omega⟩
    rw [hn, Nat.add_sub_cancel]
    obtain rfl : at' (n + 1) = t := by rw [← hn]; exact at'_val t
    rfl

/-- The body at a point, its four buffers at what the pipeline hands it, given that every id is below 4096. -/
theorem point (hV : ∀ t i, (ids V c t i : BitVec 32).toNat < 4096) (t : Fin (cfg0 (F := F)).N) (d0) (d1) (d2) (d3)
    (K : PUnit → sProp 𝕄) :
    iprop(owns (c : Thread nD τ) (st0_0 (F := F) t) fullShare ((dat (U := U) V c).before 0 t d0)
        ∗ owns (c : Thread nD τ) (st0_1 (F := F) t) fullShare ((dat (U := U) V c).before 1 t d1)
        ∗ owns (c : Thread nD τ) (st0_2 (F := F) t) fullShare ((dat (U := U) V c).before 2 t d2)
        ∗ owns (c : Thread nD τ) (st0_3 (F := F) t) fullShare ((dat (U := U) V c).before 3 t d3)
        ∗ ((owns (c : Thread nD τ) (st0_0 (F := F) t) fullShare (ids V c t)
            ∗ owns (c : Thread nD τ) (st0_1 (F := F) t) fullShare (data V c t)
            ∗ owns (c : Thread nD τ) (st0_2 (F := F) t) fullShare (accS V c t.val)
            ∗ owns (c : Thread nD τ) (st0_3 (F := F) t) fullShare (accC V c t.val)) -∗ K ⟨⟩))
      ⊢ wp frame (wpE (defs₀ (F := F)) 𝒱₀ (c : Thread nD τ) none) Set.univ (bodyAt0 t) K := by
  rw [before0, before1, ← stepS_eq (U := U) V c t d2, ← stepC_eq (U := U) V c t d3]
  exact body c Set.univ (grid0.coords t) _ _ _ _ _ _ _ _ (ids V c t) (hV t) (data V c t) _ _ K

/-- The body takes the buffers of each point from what the point before left to what the proof data says. -/
theorem body_obligation (hV : ∀ t i, (ids V c t i : BitVec 32).toNat < 4096) :
    BodyObligation (dat (U := U) V c) (defs₀ (F := F)) 𝒱₀ () Set.univ := fun t => by
  rw [bigSep_W0, bigSep_W0]
  rw [show (dat (U := U) V c).Φ t.castSucc = Φc c from rfl, show (dat (U := U) V c).Φ t.succ = Φc c from rfl,
    show (dat (U := U) V c).owesAt () t.succ = (dat (U := U) V c).owesAt () t.castSucc from rfl]
  iintro ⟨HΦ, Howes, ⟨%d0, H0⟩, ⟨%d1, H1⟩, ⟨%d2, H2⟩, ⟨%d3, H3⟩⟩
  iapply (point V c hV t d0 d1 d2 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the region leaves -/

/-- The sums' array, -/
theorem sums_eq : (dat (U := U) V c).arrAt 2 (cfg0 (F := F)).N = accS V c 799 :=
  Dat.arrAt_eq_of_after_last (dat (U := U) V c) 2 (at' 799) (by decide +kernel : win0_2.WholeAt (at' 799)) _ fun _ => rfl

/-- and the counts'. -/
theorem counts_eq : (dat (U := U) V c).arrAt 3 (cfg0 (F := F)).N = accC V c 799 :=
  Dat.arrAt_eq_of_after_last (dat (U := U) V c) 3 (at' 799) (by decide +kernel : win0_3.WholeAt (at' 799)) _ fun _ => rfl

end Cert.KernelIdeal.Region0

end
-- ==== Proof.PI.Body1.lean ====
/-
  The sites' segment sum, one grid point (custom_call 1): what its windows add to the sums and to the counts, as
  functions of the block's ids and data, and the body's triple over owned memrefs at those functions.
-/
module

public import proofs.«01_k».proof.Proof.Own
public import proofs.«01_k».proof.Proof.Words
public import proofs.«01_k».proof.Proof.Gen.KernelIdeal
public import proofs.«01_k».proof.Proof.Gen.KernelIdeal.Skeleton

@[expose] public section

noncomputable section

namespace Cert.KernelIdeal.Body1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The loops' variants: the windows still to run. -/
abbrev 𝒱₀ : Variants := Variants.nat

/-! ## What one window adds -/

/-- The sums after the window of rows from `a`: its rows replaced by themselves plus the block's rows whose id is theirs. -/
def stepS (ids : IVec S1x400 32) (D : Vec F S400x128 .f32) (a : BitVec 32) (A : Vec F S4128x128 .f32) : Vec F S4128x128 .f32 :=
  if h : k1_chk1 a then
    (Rect.unit (s := S4128x128) (k1_off1 a) S32x128.size (k1_off1_inb a h)).overlay A
      (k1_pay7 ids D a fun j => A ((Rect.unit (s := S4128x128) (k1_off1 a) S32x128.size (k1_off1_inb a h)).emb j))
  else A

/-- The counts after the window of rows from `a`: its rows plus how many of the block's ids are theirs. -/
def stepC (ids : IVec S1x400 32) (a : BitVec 32) (B : Vec F S4128x8 .f32) : Vec F S4128x8 .f32 :=
  if h : k1_chk1 a then
    (Rect.unit (s := S4128x8) (k1_off2 a) S32x8.size (k1_off2_inb a h)).overlay B
      (k1_pay8 ids a fun j => B ((Rect.unit (s := S4128x8) (k1_off2 a) S32x8.size (k1_off2_inb a h)).emb j))
  else B

/-- The sums after `n` windows, the first from row `8 * q`. -/
def iterS (ids : IVec S1x400 32) (D : Vec F S400x128 .f32) : ℕ → ℕ → Vec F S4128x128 .f32 → Vec F S4128x128 .f32
  | 0, _, A => A
  | n + 1, q, A => iterS ids D n (q + 4) (stepS ids D (BitVec.ofNat 32 (8 * q)) A)

/-- The counts after `n` windows, the first from row `8 * q`. -/
def iterC (ids : IVec S1x400 32) : ℕ → ℕ → Vec F S4128x8 .f32 → Vec F S4128x8 .f32
  | 0, _, B => B
  | n + 1, q, B => iterC ids n (q + 4) (stepC ids (BitVec.ofNat 32 (8 * q)) B)

/-- The block's smallest id, -/
def lo (X : Vec F S1x1x400 .i32) : BitVec 32 := extractAt ![0, 0, 0] (k1_pay4 X) inpos_S1x1x1_p0_0_0
/-- and its largest. -/
def hi (X : Vec F S1x1x400 .i32) : BitVec 32 := extractAt ![0, 0, 0] (k1_pay5 X) inpos_S1x1x1_p0_0_0

/-- The group of eight rows the loop starts at, -/
def first (X : Vec F S1x1x400 .i32) : ℕ := (lo X).toNat / 8
/-- and how many windows it runs. -/
def trips (X : Vec F S1x1x400 .i32) : ℕ := ((hi X).toNat / 8 + 4 - (lo X).toNat / 8) / 4

/-- What a grid point leaves in the sums, from what it found there. -/
def outS (z : Bool) (X : Vec F S1x1x400 .i32) (D : Vec F S400x128 .f32) (A : Vec F S4128x128 .f32) : Vec F S4128x128 .f32 :=
  iterS (k1_pay3 X) D (trips X) (first X) (if z then k1_pay1 else A)

/-- What a grid point leaves in the counts. -/
def outC (z : Bool) (X : Vec F S1x1x400 .i32) (B : Vec F S4128x8 .f32) : Vec F S4128x8 .f32 :=
  iterC (k1_pay3 X) (trips X) (first X) (if z then k1_pay2 else B)

/-- The smallest and largest id of a block of ids below 4096 are below 4096 and bound the ids. -/
theorem lo_hi (X : Vec F S1x1x400 .i32) (hX : ∀ i, (X i : BitVec 32).toNat < 4096) :
    (lo X).toNat < 4096 ∧ (hi X).toNat < 4096 ∧ ∀ i, (lo X).toNat ≤ (k1_pay3 X i).toNat ∧ (k1_pay3 X i).toNat ≤ (hi X).toNat := by
  have h3 : ∀ i, (shapeCast S1x1x400 (k1_pay3 X) shapeCasts_S1x400_S1x1x400 i).toNat < 4096 := fun i => hX _
  have i₀ : S1x1x400.Idx := Shape.Idx.first (by decide)
  obtain ⟨a1, a2⟩ := Cert.Words.min_of_ids (shapeCast S1x1x400 (k1_pay3 X) shapeCasts_S1x400_S1x1x400) 2147483647#32
    reduces_S1x1x400_S1 (fun b => by fin_cases b; rfl) rfl
    (Shape.reshapeEquiv shapeCasts_S1_S1x1x1 fun a => ⟨(![0, 0, 0] : Fin 3 → ℕ) a, inpos_S1x1x1_p0_0_0 a⟩) i₀ h3
  obtain ⟨b1, b2⟩ := Cert.Words.max_of_ids (shapeCast S1x1x400 (k1_pay3 X) shapeCasts_S1x400_S1x1x400) 2147483648#32
    reduces_S1x1x400_S1 (fun b => by fin_cases b; rfl) rfl
    (Shape.reshapeEquiv shapeCasts_S1_S1x1x1 fun a => ⟨(![0, 0, 0] : Fin 3 → ℕ) a, inpos_S1x1x1_p0_0_0 a⟩) i₀ h3
  refine ⟨a1, b1, fun i => ?_⟩
  have e : shapeCast S1x1x400 (k1_pay3 X) shapeCasts_S1x400_S1x1x400 ((Shape.reshapeEquiv shapeCasts_S1x400_S1x1x400).symm i)
      = k1_pay3 X i := congrArg (k1_pay3 X) (Equiv.apply_symm_apply _ i)
  rw [← e]
  exact ⟨a2 _, b2 _⟩

/-! ## The loop -/

/-- A window of rows below 4096 passes the body's check. -/
theorem chk {q : ℕ} (h : 8 * q < 4096) : k1_chk1 (BitVec.ofNat 32 (8 * q)) := by
  have e : (BitVec.ofNat 32 (8 * q)).toNat = 8 * q := by rw [BitVec.toNat_ofNat]; omega
  refine ⟨?_, ?_, ?_⟩
  · show 8 ∣ (BitVec.ofNat 32 (8 * q)).toNat
    rw [e]; exact ⟨1 * q, by omega⟩
  · intro a
    fin_cases a
    · show (BitVec.ofNat 32 (8 * q)).toNat + 32 ≤ 4128
      omega
    · show 0 + 128 ≤ 128
      omega
  · intro a
    fin_cases a
    · show (BitVec.ofNat 32 (8 * q)).toNat + 32 ≤ 4128
      omega
    · show 0 + 8 ≤ 8
      omega

/-- The loop from row `8 * q` with `n` windows to run: the sums and the counts go through those windows. -/
theorem loop (c : Dev nD) (E : Set ℕ) (i : grid1.Coords) (ids : IVec S1x400 32) (D : Vec F S400x128 .f32)
    (M3 : Memref sig .tc .vmem S4128x128 .f32) (h3 : M3.IsWhole) (M4 : Memref sig .tc .vmem S4128x8 .f32) (h4 : M4.IsWhole)
    (v : BitVec 32) (hv : v.toNat < 4096) :
    ∀ (n q : ℕ), q ≤ 520 → n = (v.toNat / 8 + 4 - q) / 4 → ∀ (A : Vec F S4128x128 .f32) (B : Vec F S4128x8 .f32) (K : BitVec 32 → sProp 𝕄),
    iprop(owns (c : Thread nD τ) M3 fullShare A ∗ owns (c : Thread nD τ) M4 fullShare B
        ∗ ∀ r, (owns (c : Thread nD τ) M3 fullShare (iterS ids D n q A) ∗ owns (c : Thread nD τ) M4 fullShare (iterC ids n q B)) -∗ K r)
      ⊢ wp frame (wpE (defs₀ (F := F)) 𝒱₀ (c : Thread nD τ) (some n)) E
          (defs₀ (F := F) .tc (4 : (Λ₀ F).Label) ⟨i, v, ids, D, M3, h3, M4, h4, BitVec.ofNat 32 (8 * q)⟩) K := by
  intro n
  induction n with
  | zero =>
    intro q hq hn A B K
    show _ ⊢ wp frame (wpE (defs₀ (F := F)) 𝒱₀ (c : Thread nD τ) (some 0)) E (cc1_while1 i v ids D M3 h3 M4 h4 (BitVec.ofNat 32 (8 * q))) K
    have e : (BitVec.ofNat 32 (8 * q)).toNat = 8 * q := by rw [BitVec.toNat_ofNat]; omega
    have ht : ¬ Scalar.cmpi .sle (BitVec.ofNat 32 (8 * q)) v = 1#1 := by
      rw [Cert.Words.sle_small (by omega) hv]; omega
    simp only [cc1_while1_eq_skeleton]; unfold cc1_while1_skel
    simp only [if_neg ht, Prog.pure_eq_ret]
    iintro ⟨H3, H4, Hk⟩
    rw [wp_ret]; imodintro
    iapply Hk
    isplitl [H3]; · iexact H3
    iexact H4
  | succ n ih =>
    intro q hq hn A B K
    show _ ⊢ wp frame (wpE (defs₀ (F := F)) 𝒱₀ (c : Thread nD τ) (some (n + 1))) E (cc1_while1 i v ids D M3 h3 M4 h4 (BitVec.ofNat 32 (8 * q))) K
    have e : (BitVec.ofNat 32 (8 * q)).toNat = 8 * q := by rw [BitVec.toNat_ofNat]; omega
    have ht : Scalar.cmpi .sle (BitVec.ofNat 32 (8 * q)) v = 1#1 := by
      rw [Cert.Words.sle_small (by omega) hv]; omega
    have hc : k1_chk1 (BitVec.ofNat 32 (8 * q)) := chk (by omega)
    have hn' : n = (v.toNat / 8 + 4 - (q + 4)) / 4 := by omega
    simp only [cc1_while1_eq_skeleton]; unfold cc1_while1_skel
    simp only [if_pos ht, Prog.lift, Prog.bind_op, Prog.bind_ret, Prog.pure_eq_ret]
    iintro ⟨H3, H4, Hk⟩
    iapply (wp_assume 𝒱₀ (c : Thread nD τ) (some (n + 1)) E hc)
    iapply (Cert.Own.load defs₀ 𝒱₀ c (some (n + 1)) E) $$ H3; iintro H3
    iapply (Cert.Own.load defs₀ 𝒱₀ c (some (n + 1)) E) $$ H3; iintro H3
    iapply (Cert.Own.store defs₀ 𝒱₀ c (some (n + 1)) E) $$ H3; iintro H3
    iapply (Cert.Own.load defs₀ 𝒱₀ c (some (n + 1)) E) $$ H4; iintro H4
    iapply (Cert.Own.load defs₀ 𝒱₀ c (some (n + 1)) E) $$ H4; iintro H4
    iapply (Cert.Own.store defs₀ 𝒱₀ c (some (n + 1)) E) $$ H4; iintro H4
    rw [Cert.Words.add_small q 4 32 rfl]
    iapply (wp_call 𝒱₀ (c : Thread nD τ) (some (n + 1)) E n (fun u hu => by cases hu; exact Nat.lt_succ_self n))
    iapply (ih (q + 4) (by omega) hn' (stepS ids D (BitVec.ofNat 32 (8 * q)) A) (stepC ids (BitVec.ofNat 32 (8 * q)) B) _)
    isplitl [H3]
    · rw [stepS, dif_pos hc]; iexact H3
    isplitl [H4]
    · rw [stepC, dif_pos hc]; iexact H4
    iintro %r ⟨H3, H4⟩
    rw [wp_ret]; imodintro
    iapply Hk
    isplitl [H3]; · iexact H3
    iexact H4

/-! ## The body -/

/-- The word the loop starts at is the first window's row. -/
theorem start (x : BitVec 32) (h : x.toNat < 4096) :
    Scalar.muli
        (Scalar.select
          (Scalar.andi
            (Scalar.cmpi .ne
              (Scalar.subi (Scalar.extui (Scalar.cmpi .sgt x 0#32)) (Scalar.extui (Scalar.cmpi .slt x 0#32)))
              (Scalar.subi (Scalar.extui (Scalar.cmpi .sgt 8#32 0#32)) (Scalar.extui (Scalar.cmpi .slt 8#32 0#32))))
            (Scalar.cmpi .ne (Scalar.remsi x 8#32) 0#32))
          (Scalar.subi (Scalar.divsi x 8#32) 1#32) (Scalar.divsi x 8#32)) 8#32
      = BitVec.ofNat 32 (8 * (x.toNat / 8)) := by
  rw [Cert.Words.floor_small h (by decide) (by decide)]
  exact Cert.Words.mul_small (x.toNat / 8) 8 (by omega)

/-- The test for the first grid point. -/
theorem isFirst (n : ℕ) (h : n < 125) :
    Scalar.cmpi .ne (Scalar.extui (Scalar.cmpi .eq (BitVec.ofNat 32 n) 0#32)) 0#32 = 1#1 ↔ n = 0 := by
  by_cases h0 : n = 0
  · subst h0; decide
  · have : (BitVec.ofNat 32 n == 0#32) = false := by
      rw [beq_eq_false_iff_ne]
      intro e
      have := congrArg BitVec.toNat e
      rw [BitVec.toNat_ofNat] at this
      simp at this
      omega
    have e : Scalar.cmpi .eq (BitVec.ofNat 32 n) 0#32 = 0#1 := by
      show BitVec.ofBool (BitVec.ofNat 32 n == 0#32) = _
      rw [this]; rfl
    rw [e]
    exact iff_of_false (by decide) h0

theorem zero3 : (![0, 0, 0] : Fin 3 → ℕ) = fun _ => 0 := by funext a; fin_cases a <;> rfl
theorem zero2 : (![0, 0] : Fin 2 → ℕ) = fun _ => 0 := by funext a; fin_cases a <;> rfl

/-- The body at a grid point, its four operands owned: the ids and the data are read, the sums and the counts go to
    what the point leaves in them; at the first point they start from zero. -/
theorem body (c : Dev nD) (E : Set ℕ) (i : grid1.Coords)
    (M1 : Memref sig .tc .vmem S1x1x400 .i32) (h1 : M1.IsWhole) (M2 : Memref sig .tc .vmem S400x128 .f32) (h2 : M2.IsWhole)
    (M3 : Memref sig .tc .vmem S4128x128 .f32) (h3 : M3.IsWhole) (M4 : Memref sig .tc .vmem S4128x8 .f32) (h4 : M4.IsWhole)
    (X : Vec F S1x1x400 .i32) (hX : ∀ i, (X i : BitVec 32).toNat < 4096) (D : Vec F S400x128 .f32)
    (A : Vec F S4128x128 .f32) (B : Vec F S4128x8 .f32) (K : PUnit → sProp 𝕄) :
    iprop(owns (c : Thread nD τ) M1 fullShare X ∗ owns (c : Thread nD τ) M2 fullShare D
        ∗ owns (c : Thread nD τ) M3 fullShare A ∗ owns (c : Thread nD τ) M4 fullShare B
        ∗ ((owns (c : Thread nD τ) M1 fullShare X ∗ owns (c : Thread nD τ) M2 fullShare D
            ∗ owns (c : Thread nD τ) M3 fullShare (outS (decide ((i 0).val = 0)) X D A)
            ∗ owns (c : Thread nD τ) M4 fullShare (outC (decide ((i 0).val = 0)) X B)) -∗ K ⟨⟩))
      ⊢ wp frame (wpE (defs₀ (F := F)) 𝒱₀ (c : Thread nD τ) none) E
          (cc1__segsum_body i M1 h1 M2 h2 M3 h3 M4 h4) K := by
  obtain ⟨hlo, hhi, -⟩ := lo_hi X hX
  simp only [cc1__segsum_body_eq_skeleton]; unfold cc1__segsum_body_skel
  by_cases h0 : (i 0).val = 0
  · have ht := (isFirst (i 0).val (i 0).isLt).2 h0
    simp only [dif_pos ht, Prog.lift, Prog.bind_op, Prog.bind_ret, Prog.pure_eq_ret, outS, outC, decide_eq_true h0, if_true]
    iintro ⟨H1, H2, H3, H4, Hk⟩
    iapply (Cert.Own.load_whole defs₀ 𝒱₀ c none E zero2) $$ H3; iintro H3
    iapply (Cert.Own.store_whole defs₀ 𝒱₀ c none E zero2) $$ H3; iintro H3
    iapply (Cert.Own.load_whole defs₀ 𝒱₀ c none E zero2) $$ H4; iintro H4
    iapply (Cert.Own.store_whole defs₀ 𝒱₀ c none E zero2) $$ H4; iintro H4
    iapply (Cert.Own.load_whole (s := S1x1x400) defs₀ 𝒱₀ c none E zero3) $$ H1; iintro H1
    iapply (Cert.Own.load_whole (s := S400x128) defs₀ 𝒱₀ c none E zero2) $$ H2; iintro H2
    rw [show extractAt ![0, 0, 0] (k1_pay4 X) inpos_S1x1x1_p0_0_0 = lo X from rfl,
      show extractAt ![0, 0, 0] (k1_pay5 X) inpos_S1x1x1_p0_0_0 = hi X from rfl, start (lo X) hlo,
      show (lo X).toNat / 8 = first X from rfl]
    have hq : first X ≤ 520 := by unfold first; omega
    have hn : trips X = ((hi X).toNat / 8 + 4 - first X) / 4 := by unfold trips first; omega
    revert hq hn hhi
    generalize first X = q, trips X = n, hi X = v, k1_pay3 X = ids
    intro hhi hq hn
    iapply (wp_call 𝒱₀ (c : Thread nD τ) none E n (fun u hu => nomatch hu))
    iapply (loop c E i ids D M3 h3 M4 h4 v hhi n q hq hn k1_pay1 k1_pay2 _)
    isplitl [H3]; · iexact H3
    isplitl [H4]; · iexact H4
    iintro %r ⟨H3, H4⟩
    rw [wp_ret]; imodintro
    iapply Hk
    isplitl [H1]; · iexact H1
    isplitl [H2]; · iexact H2
    isplitl [H3]; · iexact H3
    iexact H4
  · have ht := mt (isFirst (i 0).val (i 0).isLt).1 h0
    simp only [dif_neg ht, Prog.lift, Prog.bind_op, Prog.bind_ret, Prog.pure_eq_ret, outS, outC, decide_eq_false h0,
      Bool.false_eq_true, if_false]
    iintro ⟨H1, H2, H3, H4, Hk⟩
    iapply (Cert.Own.load_whole (s := S1x1x400) defs₀ 𝒱₀ c none E zero3) $$ H1; iintro H1
    iapply (Cert.Own.load_whole (s := S400x128) defs₀ 𝒱₀ c none E zero2) $$ H2; iintro H2
    rw [show extractAt ![0, 0, 0] (k1_pay4 X) inpos_S1x1x1_p0_0_0 = lo X from rfl,
      show extractAt ![0, 0, 0] (k1_pay5 X) inpos_S1x1x1_p0_0_0 = hi X from rfl, start (lo X) hlo,
      show (lo X).toNat / 8 = first X from rfl]
    have hq : first X ≤ 520 := by unfold first; omega
    have hn : trips X = ((hi X).toNat / 8 + 4 - first X) / 4 := by unfold trips first; omega
    revert hq hn hhi
    generalize first X = q, trips X = n, hi X = v, k1_pay3 X = ids
    intro hhi hq hn
    iapply (wp_call 𝒱₀ (c : Thread nD τ) none E n (fun u hu => nomatch hu))
    iapply (loop c E i ids D M3 h3 M4 h4 v hhi n q hq hn A B _)
    isplitl [H3]; · iexact H3
    isplitl [H4]; · iexact H4
    iintro %r ⟨H3, H4⟩
    rw [wp_ret]; imodintro
    iapply Hk
    isplitl [H1]; · iexact H1
    isplitl [H2]; · iexact H2
    isplitl [H3]; · iexact H3
    iexact H4

end Cert.KernelIdeal.Body1

end
-- ==== Proof.PI.Region1.lean ====
/-
  The sites' segment sum, the region (custom_call 1): what its grid accumulates, entered from any contents of the
  buffers; the pipeline's proof data at those accumulators; the library's body obligation; and what the two result
  arrays hold when the region is left. The two results' blocks are whole and stay in place from point to point, so they
  are written back once, at the last point.
-/
module

public import proofs.«01_k».proof.Proof.PI.Body1
public import proofs.«01_k».proof.Proof.Gen.KernelIdeal.Launch
public import proofs.«01_k».proof.Proof.Gen.KernelIdeal.Points
public import Idealize.ShloMosaic.Lib.Tactic
public import Idealize.ShloMosaic.Lib.Pipeline.ValueKit.Geometry

@[expose] public section

noncomputable section

namespace Cert.KernelIdeal.Region1

open Cert.KernelIdeal Cert.KernelIdeal.Gen Cert.KernelIdeal.Body1
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

/-- The buffers' contents when the region is entered. -/
abbrev Vals (F : FTy → Type) [FloatOps F] : Type := (c : Dev nD) → (b : Ref sig .tc) → Buf (Elt F) ((c : Thread nD τ).loc b)

/-! ## What the grid accumulates -/

/-- The grid's point of a number. -/
def at' (n : ℕ) : Fin grid1.N := ⟨n % 125, by rw [N_1]; exact Nat.mod_lt _ (by decide)⟩

theorem at'_val (t : Fin grid1.N) : at' t.val = t :=
  Fin.ext (Nat.mod_eq_of_lt (lt_of_lt_of_eq t.isLt N_1))

/-- The ids' block of a point, -/
def ids (V : Vals F) (c : Dev nD) (t : Fin grid1.N) : Vec F S1x1x400 .i32 :=
  ((cfg1 (F := F)).win 0 |>.blk t).view.read (Elt F) (V c main_v4)

/-- and the data's. -/
def data (V : Vals F) (c : Dev nD) (t : Fin grid1.N) : Vec F S400x128 .f32 :=
  ((cfg1 (F := F)).win 1 |>.blk t).view.read (Elt F) (V c main_arg0)

/-- The sums after the first `n + 1` points, -/
def accS (V : Vals F) (c : Dev nD) : ℕ → Vec F S4128x128 .f32
  | 0 => outS true (ids V c (at' 0)) (data V c (at' 0)) k1_pay1
  | n + 1 => outS false (ids V c (at' (n + 1))) (data V c (at' (n + 1))) (accS V c n)

/-- and the counts. -/
def accC (V : Vals F) (c : Dev nD) : ℕ → Vec F S4128x8 .f32
  | 0 => outC true (ids V c (at' 0)) k1_pay2
  | n + 1 => outC false (ids V c (at' (n + 1))) (accC V c n)

/-! ## The pipeline's proof data -/

/-- Between points: the scoped buffers this pipeline does not stage, held at something. -/
abbrev Φc (c : Dev nD) : sProp 𝕄 :=
  Pipeline.scopedRest (Ix := Unit) (Name := ℕ) (U := U) (Lvl := ℕ) (Val := Elt F) spec1 c

/-- The proof data: the arrays as entered; a point leaves its two operands' blocks as fetched and the results'
    buffers at the accumulators. -/
def dat (V : Vals F) (c : Dev nD) : Dat τ (Elt F) Unit ℕ U ℕ (cfg1 (F := F)) c where
  A w := V c (Pipeline.arrRef spec1 w)
  after w t := match w with
    | ⟨0, _⟩ => ids V c t
    | ⟨1, _⟩ => data V c t
    | ⟨2, _⟩ => accS V c t.val
    | ⟨3, _⟩ => accC V c t.val
  Φ _ := Φc c
  q _ := fullShare
  owed _ := 0

variable (V : Vals F) (c : Dev nD)

/-- The ids' buffer holds the point's block when the body runs, -/
theorem before0 (t : Fin (cfg1 (F := F)).N) (d) : (dat (U := U) V c).before 0 t d = ids V c t := by
  rw [Dat.before_fetched _ 0 t (fetch1_0 t)]; rfl

/-- and so does the data's. -/
theorem before1 (t : Fin (cfg1 (F := F)).N) (d) : (dat (U := U) V c).before 1 t d = data V c t := by
  rw [Dat.before_fetched _ 1 t (fetch1_1 t)]; rfl

/-- A point before the last writes nothing back. -/
theorem noflush {n : ℕ} (hn : n + 1 < 125) : ¬ n % 125 = 124 := by omega

/-- The sums' buffer holds, after the first point, what the point before left. -/
theorem before2 (t : Fin (cfg1 (F := F)).N) (ht : t.val ≠ 0) (d) :
    (dat (U := U) V c).before 2 t d = accS V c (t.val - 1) := by
  have h8 : t.val < 125 := lt_of_lt_of_eq t.isLt N_1
  rw [Dat.before_out_kept _ 2 rfl t ht
    (Bool.eq_false_iff.2 fun h => noflush (n := t.val - 1) (by omega) ((flush1_2 _).1 h)) (fun _ => rfl) (fun _ _ => rfl)]
  rfl

/-- And the counts'. -/
theorem before3 (t : Fin (cfg1 (F := F)).N) (ht : t.val ≠ 0) (d) :
    (dat (U := U) V c).before 3 t d = accC V c (t.val - 1) := by
  have h8 : t.val < 125 := lt_of_lt_of_eq t.isLt N_1
  rw [Dat.before_out_kept _ 3 rfl t ht
    (Bool.eq_false_iff.2 fun h => noflush (n := t.val - 1) (by omega) ((flush1_3 _).1 h)) (fun _ => rfl) (fun _ _ => rfl)]
  rfl

/-- The coordinate of a point is its number. -/
theorem coord (t : Fin grid1.N) : (grid1.coords t 0).val = t.val := by
  rw [Pipeline.Grid.coords_val t 0 (S := 1) (B := 125) (by decide) rfl]
  have := lt_of_lt_of_eq t.isLt N_1
  omega

/-- What a point makes of the sums it finds is the accumulator of its number, -/
theorem stepS_eq (t : Fin (cfg1 (F := F)).N) (d) :
    outS (decide ((grid1.coords t 0).val = 0)) (ids V c t) (data V c t) ((dat (U := U) V c).before 2 t d) = accS V c t.val := by
  rw [coord]
  by_cases h : t.val = 0
  · rw [decide_eq_true h]
    obtain rfl : at' 0 = t := by rw [← h]; exact at'_val t
    rfl
  · rw [before2 V c t h, decide_eq_false h]
    obtain ⟨n, hn⟩ : ∃ n, t.val = n + 1 := ⟨t.val - 1, by omega⟩
    rw [hn, Nat.add_sub_cancel]
    obtain rfl : at' (n + 1) = t := by rw [← hn]; exact at'_val t
    rfl

/-- and likewise the counts'. -/
theorem stepC_eq (t : Fin (cfg1 (F := F)).N) (d) :
    outC (decide ((grid1.coords t 0).val = 0)) (ids V c t) ((dat (U := U) V c).before 3 t d) = accC V c t.val := by
  rw [coord]
  by_cases h : t.val = 0
  · rw [decide_eq_true h]
    obtain rfl : at' 0 = t := by rw [← h]; exact at'_val t
    rfl
  · rw [before3 V c t h, decide_eq_false h]
    obtain ⟨n, hn⟩ : ∃ n, t.val = n + 1 := ⟨t.val - 1, by omega⟩
    rw [hn, Nat.add_sub_cancel]
    obtain rfl : at' (n + 1) = t := by rw [← hn]; exact at'_val t
    rfl

/-- The body at a point, its four buffers at what the pipeline hands it, given that every id is below 4096. -/
theorem point (hV : ∀ t i, (ids V c t i : BitVec 32).toNat < 4096) (t : Fin (cfg1 (F := F)).N) (d0) (d1) (d2) (d3)
    (K : PUnit → sProp 𝕄) :
    iprop(owns (c : Thread nD τ) (st1_0 (F := F) t) fullShare ((dat (U := U) V c).before 0 t d0)
        ∗ owns (c : Thread nD τ) (st1_1 (F := F) t) fullShare ((dat (U := U) V c).before 1 t d1)
        ∗ owns (c : Thread nD τ) (st1_2 (F := F) t) fullShare ((dat (U := U) V c).before 2 t d2)
        ∗ owns (c : Thread nD τ) (st1_3 (F := F) t) fullShare ((dat (U := U) V c).before 3 t d3)
        ∗ ((owns (c : Thread nD τ) (st1_0 (F := F) t) fullShare (ids V c t)
            ∗ owns (c : Thread nD τ) (st1_1 (F := F) t) fullShare (data V c t)
            ∗ owns (c : Thread nD τ) (st1_2 (F := F) t) fullShare (accS V c t.val)
            ∗ owns (c : Thread nD τ) (st1_3 (F := F) t) fullShare (accC V c t.val)) -∗ K ⟨⟩))
      ⊢ wp frame (wpE (defs₀ (F := F)) 𝒱₀ (c : Thread nD τ) none) Set.univ (bodyAt1 t) K := by
  rw [before0, before1, ← stepS_eq (U := U) V c t d2, ← stepC_eq (U := U) V c t d3]
  exact body c Set.univ (grid1.coords t) _ _ _ _ _ _ _ _ (ids V c t) (hV t) (data V c t) _ _ K

/-- The body takes the buffers of each point from what the point before left to what the proof data says. -/
theorem body_obligation (hV : ∀ t i, (ids V c t i : BitVec 32).toNat < 4096) :
    BodyObligation (dat (U := U) V c) (defs₀ (F := F)) 𝒱₀ () Set.univ := fun t => by
  rw [bigSep_W1, bigSep_W1]
  rw [show (dat (U := U) V c).Φ t.castSucc = Φc c from rfl, show (dat (U := U) V c).Φ t.succ = Φc c from rfl,
    show (dat (U := U) V c).owesAt () t.succ = (dat (U := U) V c).owesAt () t.castSucc from rfl]
  iintro ⟨HΦ, Howes, ⟨%d0, H0⟩, ⟨%d1, H1⟩, ⟨%d2, H2⟩, ⟨%d3, H3⟩⟩
  iapply (point V c hV t d0 d1 d2 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the region leaves -/

/-- The sums' array, -/
theorem sums_eq : (dat (U := U) V c).arrAt 2 (cfg1 (F := F)).N = accS V c 124 :=
  Dat.arrAt_eq_of_after_last (dat (U := U) V c) 2 (at' 124) (by decide +kernel : win1_2.WholeAt (at' 124)) _ fun _ => rfl

/-- and the counts'. -/
theorem counts_eq : (dat (U := U) V c).arrAt 3 (cfg1 (F := F)).N = accC V c 124 :=
  Dat.arrAt_eq_of_after_last (dat (U := U) V c) 3 (at' 124) (by decide +kernel : win1_3.WholeAt (at' 124)) _ fun _ => rfl

end Cert.KernelIdeal.Region1

end
-- ==== Proof.PI.Body2.lean ====
/-
  The perceptron on the block means (custom_call 2): the body's triple over owned memrefs. Thirteen operands are read
  and the result is stored once, whole.
-/
module

public import proofs.«01_k».proof.Proof.Own
public import proofs.«01_k».proof.Proof.Gen.KernelIdeal
public import proofs.«01_k».proof.Proof.Gen.KernelIdeal.Skeleton

@[expose] public section

noncomputable section

namespace Cert.KernelIdeal.Body2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The variants of the bodies' calls. -/
abbrev 𝒱₀ : Variants := Variants.nat

/-- What the body stores, from its thirteen operands. -/
def out (X0 : Vec F S4096x16 .f32) (X1 : Vec F S4096x1 .f32) (X2 : Vec F S4096x128 .f32) (X3 : Vec F S4096x1 .f32) (X4 : Vec F S4096x128 .f32) (X5 : Vec F S16x256 .f32) (X6 : Vec F S128x256 .f32) (X7 : Vec F S128x256 .f32) (X8 : Vec F S1x256 .f32) (X9 : Vec F S256x128 .f32) (X10 : Vec F S1x128 .f32) (X11 : Vec F S128x128 .f32) (X12 : Vec F S1x128 .f32) : Vec F S4096x128 .f32 :=
  k2_pay1 (k2_pay2 X0 X1 X2 X3 X5 X6 X4 X7 X8) X9 X10 X11 X12

theorem zero2 : (![0, 0] : Fin 2 → ℕ) = fun _ => 0 := by funext a; fin_cases a <;> rfl

/-- The body, its fourteen operands owned: the inputs are read and left, the result goes to `out` of them. -/
theorem body (c : Dev nD) (E : Set ℕ)
    (M0 : Memref sig .tc .vmem S4096x16 .f32) (h0 : M0.IsWhole)
    (M1 : Memref sig .tc .vmem S4096x1 .f32) (h1 : M1.IsWhole)
    (M2 : Memref sig .tc .vmem S4096x128 .f32) (h2 : M2.IsWhole)
    (M3 : Memref sig .tc .vmem S4096x1 .f32) (h3 : M3.IsWhole)
    (M4 : Memref sig .tc .vmem S4096x128 .f32) (h4 : M4.IsWhole)
    (M5 : Memref sig .tc .vmem S16x256 .f32) (h5 : M5.IsWhole)
    (M6 : Memref sig .tc .vmem S128x256 .f32) (h6 : M6.IsWhole)
    (M7 : Memref sig .tc .vmem S128x256 .f32) (h7 : M7.IsWhole)
    (M8 : Memref sig .tc .vmem S1x256 .f32) (h8 : M8.IsWhole)
    (M9 : Memref sig .tc .vmem S256x128 .f32) (h9 : M9.IsWhole)
    (M10 : Memref sig .tc .vmem S1x128 .f32) (h10 : M10.IsWhole)
    (M11 : Memref sig .tc .vmem S128x128 .f32) (h11 : M11.IsWhole)
    (M12 : Memref sig .tc .vmem S1x128 .f32) (h12 : M12.IsWhole)
    (M13 : Memref sig .tc .vmem S4096x128 .f32) (h13 : M13.IsWhole)
    (X0 : Vec F S4096x16 .f32) (X1 : Vec F S4096x1 .f32) (X2 : Vec F S4096x128 .f32) (X3 : Vec F S4096x1 .f32) (X4 : Vec F S4096x128 .f32) (X5 : Vec F S16x256 .f32) (X6 : Vec F S128x256 .f32) (X7 : Vec F S128x256 .f32) (X8 : Vec F S1x256 .f32) (X9 : Vec F S256x128 .f32) (X10 : Vec F S1x128 .f32) (X11 : Vec F S128x128 .f32) (X12 : Vec F S1x128 .f32) (X13 : Vec F S4096x128 .f32)
    (K : PUnit → sProp 𝕄) :
    iprop(owns (c : Thread nD τ) M0 fullShare X0 ∗ owns (c : Thread nD τ) M1 fullShare X1
         ∗ owns (c : Thread nD τ) M2 fullShare X2 ∗ owns (c : Thread nD τ) M3 fullShare X3
         ∗ owns (c : Thread nD τ) M4 fullShare X4 ∗ owns (c : Thread nD τ) M5 fullShare X5
         ∗ owns (c : Thread nD τ) M6 fullShare X6 ∗ owns (c : Thread nD τ) M7 fullShare X7
         ∗ owns (c : Thread nD τ) M8 fullShare X8 ∗ owns (c : Thread nD τ) M9 fullShare X9
         ∗ owns (c : Thread nD τ) M10 fullShare X10 ∗ owns (c : Thread nD τ) M11 fullShare X11
         ∗ owns (c : Thread nD τ) M12 fullShare X12 ∗ owns (c : Thread nD τ) M13 fullShare X13
        ∗ ((owns (c : Thread nD τ) M0 fullShare X0 ∗ owns (c : Thread nD τ) M1 fullShare X1
         ∗ owns (c : Thread nD τ) M2 fullShare X2 ∗ owns (c : Thread nD τ) M3 fullShare X3
         ∗ owns (c : Thread nD τ) M4 fullShare X4 ∗ owns (c : Thread nD τ) M5 fullShare X5
         ∗ owns (c : Thread nD τ) M6 fullShare X6 ∗ owns (c : Thread nD τ) M7 fullShare X7
         ∗ owns (c : Thread nD τ) M8 fullShare X8 ∗ owns (c : Thread nD τ) M9 fullShare X9
         ∗ owns (c : Thread nD τ) M10 fullShare X10 ∗ owns (c : Thread nD τ) M11 fullShare X11
         ∗ owns (c : Thread nD τ) M12 fullShare X12
         ∗ owns (c : Thread nD τ) M13 fullShare (out X0 X1 X2 X3 X4 X5 X6 X7 X8 X9 X10 X11 X12)) -∗ K ⟨⟩))
      ⊢ wp frame (wpE (defs₀ (F := F)) 𝒱₀ (c : Thread nD τ) none) E
          (cc2__mlp_body M0 h0 M1 h1 M2 h2 M3 h3 M4 h4 M5 h5 M6 h6 M7 h7 M8 h8 M9 h9 M10 h10 M11 h11 M12 h12 M13 h13) K := by
  simp only [cc2__mlp_body_eq_skeleton]; unfold cc2__mlp_body_skel
  simp only [k2_part1_eq_skeleton]; unfold k2_part1_skel
  simp only [Prog.lift, Prog.bind_op, Prog.bind_ret, Prog.pure_eq_ret]
  iintro ⟨H0, H1, H2, H3, H4, H5, H6, H7, H8, H9, H10, H11, H12, H13, Hk⟩
  iapply (Cert.Own.load_whole (s := S4096x16) defs₀ 𝒱₀ c none E zero2) $$ H0; iintro H0
  iapply (Cert.Own.load_whole (s := S4096x1) defs₀ 𝒱₀ c none E zero2) $$ H1; iintro H1
  iapply (Cert.Own.load_whole (s := S4096x128) defs₀ 𝒱₀ c none E zero2) $$ H2; iintro H2
  iapply (Cert.Own.load_whole (s := S4096x1) defs₀ 𝒱₀ c none E zero2) $$ H3; iintro H3
  iapply (Cert.Own.load_whole (s := S16x256) defs₀ 𝒱₀ c none E zero2) $$ H5; iintro H5
  iapply (Cert.Own.load_whole (s := S128x256) defs₀ 𝒱₀ c none E zero2) $$ H6; iintro H6
  iapply (Cert.Own.load_whole (s := S4096x128) defs₀ 𝒱₀ c none E zero2) $$ H4; iintro H4
  iapply (Cert.Own.load_whole (s := S128x256) defs₀ 𝒱₀ c none E zero2) $$ H7; iintro H7
  iapply (Cert.Own.load_whole (s := S1x256) defs₀ 𝒱₀ c none E zero2) $$ H8; iintro H8
  iapply (Cert.Own.load_whole (s := S256x128) defs₀ 𝒱₀ c none E zero2) $$ H9; iintro H9
  iapply (Cert.Own.load_whole (s := S1x128) defs₀ 𝒱₀ c none E zero2) $$ H10; iintro H10
  iapply (Cert.Own.load_whole (s := S128x128) defs₀ 𝒱₀ c none E zero2) $$ H11; iintro H11
  iapply (Cert.Own.load_whole (s := S1x128) defs₀ 𝒱₀ c none E zero2) $$ H12; iintro H12
  iapply (Cert.Own.load_whole (s := S4096x128) defs₀ 𝒱₀ c none E zero2) $$ H13; iintro H13
  iapply (Cert.Own.store_whole (s := S4096x128) defs₀ 𝒱₀ c none E zero2) $$ H13; iintro H13
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Body2

end
-- ==== Proof.PI.Region2.lean ====
/-
  The perceptron on the block means, the region (custom_call 2): one point, whose thirteen operands are staged whole and
  whose result is written back whole. The pipeline's proof data, the library's body obligation, and what the result
  array holds when the region is left.
-/
module

public import proofs.«01_k».proof.Proof.PI.Body2
public import proofs.«01_k».proof.Proof.Gen.KernelIdeal.Launch
public import proofs.«01_k».proof.Proof.Gen.KernelIdeal.Points
public import Idealize.ShloMosaic.Lib.Tactic
public import Idealize.ShloMosaic.Lib.Pipeline.ValueKit.Geometry

@[expose] public section

noncomputable section

namespace Cert.KernelIdeal.Region2

open Cert.KernelIdeal Cert.KernelIdeal.Gen Cert.KernelIdeal.Body2
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

/-- The buffers' contents when the region is entered. -/
abbrev Vals (F : FTy → Type) [FloatOps F] : Type := (c : Dev nD) → (b : Ref sig .tc) → Buf (Elt F) ((c : Thread nD τ).loc b)

/-! The thirteen operands. -/

def x0 (V : Vals F) (c : Dev nD) : Vec F S4096x16 .f32 := V c main_v2
def x1 (V : Vals F) (c : Dev nD) : Vec F S4096x1 .f32 := V c main_v3
def x2 (V : Vals F) (c : Dev nD) : Vec F S4096x128 .f32 := V c main_v6
def x3 (V : Vals F) (c : Dev nD) : Vec F S4096x1 .f32 := V c main_v7
def x4 (V : Vals F) (c : Dev nD) : Vec F S4096x128 .f32 := V c main_arg2
def x5 (V : Vals F) (c : Dev nD) : Vec F S16x256 .f32 := V c main_v9
def x6 (V : Vals F) (c : Dev nD) : Vec F S128x256 .f32 := V c main_v10
def x7 (V : Vals F) (c : Dev nD) : Vec F S128x256 .f32 := V c main_v11
def x8 (V : Vals F) (c : Dev nD) : Vec F S1x256 .f32 := V c main_v12
def x9 (V : Vals F) (c : Dev nD) : Vec F S256x128 .f32 := V c main_v13
def x10 (V : Vals F) (c : Dev nD) : Vec F S1x128 .f32 := V c main_v14
def x11 (V : Vals F) (c : Dev nD) : Vec F S128x128 .f32 := V c main_v15
def x12 (V : Vals F) (c : Dev nD) : Vec F S1x128 .f32 := V c main_v16

/-- What the region's result is, from the contents it is entered with. -/
def res (V : Vals F) (c : Dev nD) : Vec F S4096x128 .f32 :=
  out (x0 V c) (x1 V c) (x2 V c) (x3 V c) (x4 V c) (x5 V c) (x6 V c) (x7 V c) (x8 V c) (x9 V c) (x10 V c) (x11 V c) (x12 V c)

/-- Between the region's ends: the scoped buffers this pipeline does not stage, held at something. -/
abbrev Φc (c : Dev nD) : sProp 𝕄 :=
  Pipeline.scopedRest (Ix := Unit) (Name := ℕ) (U := U) (Lvl := ℕ) (Val := Elt F) spec2 c

/-- The proof data: the arrays as entered; the body leaves its operands' buffers as staged and the result's at `res`. -/
def dat (V : Vals F) (c : Dev nD) : Dat τ (Elt F) Unit ℕ U ℕ (cfg2 (F := F)) c where
  A w := V c (Pipeline.arrRef spec2 w)
  after w _ := match w with
    | ⟨0, _⟩ => x0 V c
    | ⟨1, _⟩ => x1 V c
    | ⟨2, _⟩ => x2 V c
    | ⟨3, _⟩ => x3 V c
    | ⟨4, _⟩ => x4 V c
    | ⟨5, _⟩ => x5 V c
    | ⟨6, _⟩ => x6 V c
    | ⟨7, _⟩ => x7 V c
    | ⟨8, _⟩ => x8 V c
    | ⟨9, _⟩ => x9 V c
    | ⟨10, _⟩ => x10 V c
    | ⟨11, _⟩ => x11 V c
    | ⟨12, _⟩ => x12 V c
    | ⟨13, _⟩ => res V c
  Φ _ := Φc c
  q _ := fullShare
  owed _ := 0

variable (V : Vals F) (c : Dev nD)

/-! A whole window's block is its array. -/

theorem whole0 : (((cfg2 (F := F)).win 0).blk t2_0).view.read (Elt F) (V c main_v2) = x0 V c := by
  funext j
  refine congrArg (V c main_v2) (funext fun a => Fin.ext ?_)
  exact Pipeline.Window.rect_emb_val_of_index_zero win2_0 t2_0 a rfl j

theorem whole1 : (((cfg2 (F := F)).win 1).blk t2_0).view.read (Elt F) (V c main_v3) = x1 V c := by
  funext j
  refine congrArg (V c main_v3) (funext fun a => Fin.ext ?_)
  exact Pipeline.Window.rect_emb_val_of_index_zero win2_1 t2_0 a rfl j

theorem whole2 : (((cfg2 (F := F)).win 2).blk t2_0).view.read (Elt F) (V c main_v6) = x2 V c := by
  funext j
  refine congrArg (V c main_v6) (funext fun a => Fin.ext ?_)
  exact Pipeline.Window.rect_emb_val_of_index_zero win2_2 t2_0 a rfl j

theorem whole3 : (((cfg2 (F := F)).win 3).blk t2_0).view.read (Elt F) (V c main_v7) = x3 V c := by
  funext j
  refine congrArg (V c main_v7) (funext fun a => Fin.ext ?_)
  exact Pipeline.Window.rect_emb_val_of_index_zero win2_3 t2_0 a rfl j

theorem whole4 : (((cfg2 (F := F)).win 4).blk t2_0).view.read (Elt F) (V c main_arg2) = x4 V c := by
  funext j
  refine congrArg (V c main_arg2) (funext fun a => Fin.ext ?_)
  exact Pipeline.Window.rect_emb_val_of_index_zero win2_4 t2_0 a rfl j

theorem whole5 : (((cfg2 (F := F)).win 5).blk t2_0).view.read (Elt F) (V c main_v9) = x5 V c := by
  funext j
  refine congrArg (V c main_v9) (funext fun a => Fin.ext ?_)
  exact Pipeline.Window.rect_emb_val_of_index_zero win2_5 t2_0 a rfl j

theorem whole6 : (((cfg2 (F := F)).win 6).blk t2_0).view.read (Elt F) (V c main_v10) = x6 V c := by
  funext j
  refine congrArg (V c main_v10) (funext fun a => Fin.ext ?_)
  exact Pipeline.Window.rect_emb_val_of_index_zero win2_6 t2_0 a rfl j

theorem whole7 : (((cfg2 (F := F)).win 7).blk t2_0).view.read (Elt F) (V c main_v11) = x7 V c := by
  funext j
  refine congrArg (V c main_v11) (funext fun a => Fin.ext ?_)
  exact Pipeline.Window.rect_emb_val_of_index_zero win2_7 t2_0 a rfl j

theorem whole8 : (((cfg2 (F := F)).win 8).blk t2_0).view.read (Elt F) (V c main_v12) = x8 V c := by
  funext j
  refine congrArg (V c main_v12) (funext fun a => Fin.ext ?_)
  exact Pipeline.Window.rect_emb_val_of_index_zero win2_8 t2_0 a rfl j

theorem whole9 : (((cfg2 (F := F)).win 9).blk t2_0).view.read (Elt F) (V c main_v13) = x9 V c := by
  funext j
  refine congrArg (V c main_v13) (funext fun a => Fin.ext ?_)
  exact Pipeline.Window.rect_emb_val_of_index_zero win2_9 t2_0 a rfl j

theorem whole10 : (((cfg2 (F := F)).win 10).blk t2_0).view.read (Elt F) (V c main_v14) = x10 V c := by
  funext j
  refine congrArg (V c main_v14) (funext fun a => Fin.ext ?_)
  exact Pipeline.Window.rect_emb_val_of_index_zero win2_10 t2_0 a rfl j

theorem whole11 : (((cfg2 (F := F)).win 11).blk t2_0).view.read (Elt F) (V c main_v15) = x11 V c := by
  funext j
  refine congrArg (V c main_v15) (funext fun a => Fin.ext ?_)
  exact Pipeline.Window.rect_emb_val_of_index_zero win2_11 t2_0 a rfl j

theorem whole12 : (((cfg2 (F := F)).win 12).blk t2_0).view.read (Elt F) (V c main_v16) = x12 V c := by
  funext j
  refine congrArg (V c main_v16) (funext fun a => Fin.ext ?_)
  exact Pipeline.Window.rect_emb_val_of_index_zero win2_12 t2_0 a rfl j

/-! Each operand's buffer holds its array when the body runs. -/

theorem before0 (d) : (dat (U := U) V c).before 0 t2_0 d = x0 V c := by
  exact (Dat.before_fetched (dat (U := U) V c) 0 t2_0 (fetch2_0 t2_0) d).trans (whole0 V c)
theorem before1 (d) : (dat (U := U) V c).before 1 t2_0 d = x1 V c := by
  exact (Dat.before_fetched (dat (U := U) V c) 1 t2_0 (fetch2_1 t2_0) d).trans (whole1 V c)
theorem before2 (d) : (dat (U := U) V c).before 2 t2_0 d = x2 V c := by
  exact (Dat.before_fetched (dat (U := U) V c) 2 t2_0 (fetch2_2 t2_0) d).trans (whole2 V c)
theorem before3 (d) : (dat (U := U) V c).before 3 t2_0 d = x3 V c := by
  exact (Dat.before_fetched (dat (U := U) V c) 3 t2_0 (fetch2_3 t2_0) d).trans (whole3 V c)
theorem before4 (d) : (dat (U := U) V c).before 4 t2_0 d = x4 V c := by
  exact (Dat.before_fetched (dat (U := U) V c) 4 t2_0 (fetch2_4 t2_0) d).trans (whole4 V c)
theorem before5 (d) : (dat (U := U) V c).before 5 t2_0 d = x5 V c := by
  exact (Dat.before_fetched (dat (U := U) V c) 5 t2_0 (fetch2_5 t2_0) d).trans (whole5 V c)
theorem before6 (d) : (dat (U := U) V c).before 6 t2_0 d = x6 V c := by
  exact (Dat.before_fetched (dat (U := U) V c) 6 t2_0 (fetch2_6 t2_0) d).trans (whole6 V c)
theorem before7 (d) : (dat (U := U) V c).before 7 t2_0 d = x7 V c := by
  exact (Dat.before_fetched (dat (U := U) V c) 7 t2_0 (fetch2_7 t2_0) d).trans (whole7 V c)
theorem before8 (d) : (dat (U := U) V c).before 8 t2_0 d = x8 V c := by
  exact (Dat.before_fetched (dat (U := U) V c) 8 t2_0 (fetch2_8 t2_0) d).trans (whole8 V c)
theorem before9 (d) : (dat (U := U) V c).before 9 t2_0 d = x9 V c := by
  exact (Dat.before_fetched (dat (U := U) V c) 9 t2_0 (fetch2_9 t2_0) d).trans (whole9 V c)
theorem before10 (d) : (dat (U := U) V c).before 10 t2_0 d = x10 V c := by
  exact (Dat.before_fetched (dat (U := U) V c) 10 t2_0 (fetch2_10 t2_0) d).trans (whole10 V c)
theorem before11 (d) : (dat (U := U) V c).before 11 t2_0 d = x11 V c := by
  exact (Dat.before_fetched (dat (U := U) V c) 11 t2_0 (fetch2_11 t2_0) d).trans (whole11 V c)
theorem before12 (d) : (dat (U := U) V c).before 12 t2_0 d = x12 V c := by
  exact (Dat.before_fetched (dat (U := U) V c) 12 t2_0 (fetch2_12 t2_0) d).trans (whole12 V c)

/-- The body at the point, its buffers at what the pipeline hands it. -/
theorem point (t : Fin (cfg2 (F := F)).N) (d0) (d1) (d2) (d3) (d4) (d5) (d6) (d7) (d8) (d9) (d10) (d11) (d12) (d13)
    (K : PUnit → sProp 𝕄) :
    iprop(owns (c : Thread nD τ) (st2_0 (F := F) t) fullShare ((dat (U := U) V c).before 0 t d0)
        ∗ owns (c : Thread nD τ) (st2_1 (F := F) t) fullShare ((dat (U := U) V c).before 1 t d1)
        ∗ owns (c : Thread nD τ) (st2_2 (F := F) t) fullShare ((dat (U := U) V c).before 2 t d2)
        ∗ owns (c : Thread nD τ) (st2_3 (F := F) t) fullShare ((dat (U := U) V c).before 3 t d3)
        ∗ owns (c : Thread nD τ) (st2_4 (F := F) t) fullShare ((dat (U := U) V c).before 4 t d4)
        ∗ owns (c : Thread nD τ) (st2_5 (F := F) t) fullShare ((dat (U := U) V c).before 5 t d5)
        ∗ owns (c : Thread nD τ) (st2_6 (F := F) t) fullShare ((dat (U := U) V c).before 6 t d6)
        ∗ owns (c : Thread nD τ) (st2_7 (F := F) t) fullShare ((dat (U := U) V c).before 7 t d7)
        ∗ owns (c : Thread nD τ) (st2_8 (F := F) t) fullShare ((dat (U := U) V c).before 8 t d8)
        ∗ owns (c : Thread nD τ) (st2_9 (F := F) t) fullShare ((dat (U := U) V c).before 9 t d9)
        ∗ owns (c : Thread nD τ) (st2_10 (F := F) t) fullShare ((dat (U := U) V c).before 10 t d10)
        ∗ owns (c : Thread nD τ) (st2_11 (F := F) t) fullShare ((dat (U := U) V c).before 11 t d11)
        ∗ owns (c : Thread nD τ) (st2_12 (F := F) t) fullShare ((dat (U := U) V c).before 12 t d12)
        ∗ owns (c : Thread nD τ) (st2_13 (F := F) t) fullShare ((dat (U := U) V c).before 13 t d13)
        ∗ ((owns (c : Thread nD τ) (st2_0 (F := F) t) fullShare (x0 V c)
            ∗ owns (c : Thread nD τ) (st2_1 (F := F) t) fullShare (x1 V c)
            ∗ owns (c : Thread nD τ) (st2_2 (F := F) t) fullShare (x2 V c)
            ∗ owns (c : Thread nD τ) (st2_3 (F := F) t) fullShare (x3 V c)
            ∗ owns (c : Thread nD τ) (st2_4 (F := F) t) fullShare (x4 V c)
            ∗ owns (c : Thread nD τ) (st2_5 (F := F) t) fullShare (x5 V c)
            ∗ owns (c : Thread nD τ) (st2_6 (F := F) t) fullShare (x6 V c)
            ∗ owns (c : Thread nD τ) (st2_7 (F := F) t) fullShare (x7 V c)
            ∗ owns (c : Thread nD τ) (st2_8 (F := F) t) fullShare (x8 V c)
            ∗ owns (c : Thread nD τ) (st2_9 (F := F) t) fullShare (x9 V c)
            ∗ owns (c : Thread nD τ) (st2_10 (F := F) t) fullShare (x10 V c)
            ∗ owns (c : Thread nD τ) (st2_11 (F := F) t) fullShare (x11 V c)
            ∗ owns (c : Thread nD τ) (st2_12 (F := F) t) fullShare (x12 V c)
            ∗ owns (c : Thread nD τ) (st2_13 (F := F) t) fullShare (res V c)) -∗ K ⟨⟩))
      ⊢ wp frame (wpE (defs₀ (F := F)) 𝒱₀ (c : Thread nD τ) none) Set.univ (bodyAt2 t) K := by
  obtain rfl := fin_N2 t
  rw [before0, before1, before2, before3, before4, before5, before6, before7, before8, before9, before10, before11, before12]
  exact body c Set.univ _ _ _ _ _ _ _ _ _ _ _ _ _ _ _ _ _ _ _ _ _ _ _ _ _ _ _ _ (x0 V c) (x1 V c) (x2 V c) (x3 V c) (x4 V c) (x5 V c) (x6 V c) (x7 V c) (x8 V c) (x9 V c) (x10 V c) (x11 V c) (x12 V c) _ K

/-- The body takes the buffers from what is staged to what the proof data says. -/
theorem body_obligation :
    BodyObligation (dat (U := U) V c) (defs₀ (F := F)) 𝒱₀ () Set.univ := fun t => by
  rw [bigSep_W2, bigSep_W2]
  rw [show (dat (U := U) V c).Φ t.castSucc = Φc c from rfl, show (dat (U := U) V c).Φ t.succ = Φc c from rfl,
    show (dat (U := U) V c).owesAt () t.succ = (dat (U := U) V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (point V c t d0 d1 d2 d3 d4 d5 d6 d7 d8 d9 d10 d11 d12 d13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The result's array when the region is left. -/
theorem res_eq : (dat (U := U) V c).arrAt 13 (cfg2 (F := F)).N = res V c :=
  Dat.arrAt_eq_of_after_last (dat (U := U) V c) 13 t2_0 (by decide +kernel : win2_13.WholeAt t2_0) _ fun _ => rfl

end Cert.KernelIdeal.Region2

end
-- ==== Proof.PI.Segs.lean ====
/-
  The buffers' contents between @main's items and the three regions' records over them, from any memory whose ids are
  below 4096.
-/
module

public import proofs.«01_k».proof.Proof.PI.Region0
public import proofs.«01_k».proof.Proof.PI.Region1
public import proofs.«01_k».proof.Proof.PI.Region2
public import proofs.«01_k».proof.Proof.Gen.KernelIdeal.Regions
public import Idealize.ShloMosaic.Lib.Pipeline.RegionsLoop

@[expose] public section

noncomputable section

namespace Cert.KernelIdeal.Segs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The certificate's algebra: the pipelines', beside counters that are not used. -/
abbrev UU : Type := Pipeline.UD sig nD τ

local notation "𝕄" => MT nD τ sig Unit (Elt F) ℕ UU ℕ

/-- The bodies' loops count windows. -/
abbrev 𝒱₀ : Variants := Variants.nat
/-- No core owes another anything. -/
abbrev L : GSem nD τ sig → Finset Unit := fun _ => ∅
abbrev lv : GSem nD τ sig → Unit → ℕ := fun _ _ => 0

variable (m : (ℓ : Loc nD τ sig) → Buf (Elt F) ℓ)

/-! ## The buffers between the items -/

/-- When the bonds' region is entered, -/
def in0 : Region0.Vals F := fun c b => V1 m c b

/-- and when it is left: its two results at the accumulators. -/
def left0 (c : Dev nD) : Valuation τ sig (Elt F) :=
  Function.update (Function.update (V1 m c) main_v1_0 (Region0.accS (in0 m) c 799)) main_v1_1 (Region0.accC (in0 m) c 799)

/-- When the sites' region is entered, -/
def in1 : Region1.Vals F := fun c b => V3 m (fun _ r c => left0 m c r) c b

/-- and when it is left. -/
def left1 (c : Dev nD) : Valuation τ sig (Elt F) :=
  Function.update (Function.update (V3 m (fun _ r c => left0 m c r) c) main_v5_0 (Region1.accS (in1 m) c 124)) main_v5_1
    (Region1.accC (in1 m) c 124)

/-- What the two segment sums leave. -/
def outs1 : Outs (F := F) := fun J r c => match J with
  | 2 => left0 m c r
  | _ => left1 m c r

/-- When the perceptron's region is entered, -/
def in2 : Region2.Vals F := fun c b => V5 m (outs1 m) c b

/-- and when it is left. -/
def left2 (c : Dev nD) : Valuation τ sig (Elt F) := Function.update (V5 m (outs1 m) c) main_v17 (Region2.res (in2 m) c)

/-- What the regions leave. -/
def outs : Outs (F := F) := fun J r c => match J with
  | 2 => left0 m c r
  | 4 => left1 m c r
  | _ => left2 m c r

/-- The buffers as the regions leave them. -/
def out0 : Region0.Vals F := fun c b => V2 m (outs m) c b
def out1 : Region1.Vals F := fun c b => V4 m (outs m) c b
def out2 : Region2.Vals F := fun c b => V6 m (outs m) c b

/-- The contents after the first region depend on what it leaves only, -/
theorem V2_congr {o o' : Outs (F := F)} (c : Dev nD) (ha : o 2 main_v1_0 c = o' 2 main_v1_0 c) (hb : o 2 main_v1_1 c = o' 2 main_v1_1 c) :
    V2 m o c = V2 m o' c := by
  unfold V2; rw [ha, hb]

/-- and those after the second on what the two leave. -/
theorem V4_congr {o o' : Outs (F := F)} (c : Dev nD) (h : V3 m o c = V3 m o' c) (ha : o 4 main_v5_0 c = o' 4 main_v5_0 c)
    (hb : o 4 main_v5_1 c = o' 4 main_v5_1 c) : V4 m o c = V4 m o' c := by
  unfold V4; rw [h, ha, hb]

theorem V3_eq (c : Dev nD) : V3 m (fun _ r c => left0 m c r) c = V3 m (outs m) c :=
  congrArg (StableHlo.after hostOps1) (V2_congr m c rfl rfl)

theorem V5_eq (c : Dev nD) : V5 m (outs1 m) c = V5 m (outs m) c :=
  congrArg (StableHlo.after hostOps2) (V4_congr m c (congrArg (StableHlo.after hostOps1) (V2_congr m c rfl rfl)) rfl rfl)

theorem in1_eq : in1 m = fun c (b : Ref sig .tc) => V3 m (outs m) c b := by
  funext c b; exact congrFun (V3_eq m c) _

theorem in2_eq : in2 m = fun c (b : Ref sig .tc) => V5 m (outs m) c b := by
  funext c b; exact congrFun (V5_eq m c) _

/-- A region changes its two results only. -/
theorem out0_of (c : Dev nD) (b : Ref sig .tc) (h : b ∉ ([main_v1_0, main_v1_1] : List (Ref sig .tc))) : out0 m c b = in0 m c b :=
  V2_of m (outs m) c b h
theorem out1_of (c : Dev nD) (b : Ref sig .tc) (h : b ∉ ([main_v5_0, main_v5_1] : List (Ref sig .tc))) : out1 m c b = in1 m c b := by
  rw [in1_eq]; exact V4_of m (outs m) c b h
theorem out2_of (c : Dev nD) (b : Ref sig .tc) (h : b ∉ ([main_v17] : List (Ref sig .tc))) : out2 m c b = in2 m c b := by
  rw [in2_eq]; exact V6_of m (outs m) c b h

/-- A buffer other than a written one keeps its contents. -/
theorem upd_ne {W : Valuation τ sig (Elt F)} {r b : Ref sig .tc} (h : b ≠ r) (x) :
    Function.update W (Proc.devRef .tc r : DevRef τ sig) x (Proc.devRef .tc b) = W (Proc.devRef .tc b) :=
  Function.update_of_ne (StableHlo.devRef_ne_of_ne h) _ _

theorem left0_sums (c : Dev nD) : left0 m c main_v1_0 = Region0.accS (in0 m) c 799 := by
  unfold left0; rw [upd_ne (by decide), Function.update_self]
theorem left0_counts (c : Dev nD) : left0 m c main_v1_1 = Region0.accC (in0 m) c 799 := by
  unfold left0; rw [Function.update_self]
theorem left1_sums (c : Dev nD) : left1 m c main_v5_0 = Region1.accS (in1 m) c 124 := by
  unfold left1; rw [upd_ne (by decide), Function.update_self]
theorem left1_counts (c : Dev nD) : left1 m c main_v5_1 = Region1.accC (in1 m) c 124 := by
  unfold left1; rw [Function.update_self]
theorem left2_res (c : Dev nD) : left2 m c main_v17 = Region2.res (in2 m) c := by
  unfold left2; rw [Function.update_self]

theorem V2_sums (c : Dev nD) : out0 m c main_v1_0 = Region0.accS (in0 m) c 799 := by
  unfold out0 V2; rw [upd_ne (by decide), Function.update_self]; exact left0_sums m c
theorem V2_counts (c : Dev nD) : out0 m c main_v1_1 = Region0.accC (in0 m) c 799 := by
  unfold out0 V2; rw [Function.update_self]; exact left0_counts m c
theorem V4_sums (c : Dev nD) : out1 m c main_v5_0 = Region1.accS (in1 m) c 124 := by
  unfold out1 V4; rw [upd_ne (by decide), Function.update_self]; exact left1_sums m c
theorem V4_counts (c : Dev nD) : out1 m c main_v5_1 = Region1.accC (in1 m) c 124 := by
  unfold out1 V4; rw [Function.update_self]; exact left1_counts m c
theorem V6_res (c : Dev nD) : out2 m c main_v17 = Region2.res (in2 m) c := by
  unfold out2 V6; rw [Function.update_self]; exact left2_res m c

/-! ## The regions -/

/-- The three pipelines' proof data. -/
def pdats : (p : Fin 3) → (c : Dev nD) → Dat τ (Elt F) Unit ℕ UU ℕ (cfgs (F := F) p) c
  | ⟨0, _⟩ => fun c => Region0.dat (in0 m) c
  | ⟨1, _⟩ => fun c => Region1.dat (in1 m) c
  | ⟨2, _⟩ => fun c => Region2.dat (in2 m) c

/-- What rides beside the buffers: the core owes nothing. -/
abbrev R (c : Dev nD) : sProp 𝕄 := iprop(∃ W, owes (c : Thread nD τ) (0 : CellTallies nD τ sig Unit) W)

set_option backward.isDefEq.respectTransparency.types false in
/-- A REGION of this program: over every unscoped buffer at `V`, left with them at `V'`, which is `V` but for the
    region's arrays and has those as the pipeline leaves them. Its invariant is the scoped buffers it does not stage. -/
def seg (p : Fin 3) (kit : Pipeline.LaunchFacts (nD := nD) (τ := τ) (cfgs (F := F)) p)
    (V V' : (c : Dev nD) → (b : Ref sig .tc) → Buf (Elt F) ((c : Thread nD τ).loc b))
    (hbody : ∀ c, BodyObligation (pdats m p c) (defs₀ (F := F)) 𝒱₀ () Set.univ)
    (hΦ : ∀ c t, (pdats m p c).Φ t
      = Pipeline.scopedRest (Ix := Unit) (Name := ℕ) (U := UU) (Lvl := ℕ) (Val := Elt F) (cfgs (F := F) p).spec c)
    (hq : ∀ c w, (pdats m p c).q w = fullShare) (howed : ∀ c t, (pdats m p c).owed t = 0)
    (hrec : ∀ c, (pdats m p c).recorded 0 = Set.univ)
    (hA : ∀ c w, (pdats m p c).A w = V c (Pipeline.arrRef (cfgs (F := F) p).spec w))
    (hF : ∀ c w, (pdats m p c).arrAt w (cfgs (F := F) p).N = V' c (Pipeline.arrRef (cfgs (F := F) p).spec w))
    (hne : ∀ c (b : Ref sig .tc), b ∉ Finset.univ.image (Pipeline.arrRef (cfgs (F := F) p).spec) → V' c b = V c b) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(unscopedBufs c (V c) ∗ R c)
  post c := iprop(unscopedBufs c (V' c) ∗ R c)
  X _ := BI.emp
  Y _ := BI.emp
  Z c := Pipeline.unscopedRest (Ix := Unit) (Name := ℕ) (U := UU) (Lvl := ℕ) (cfgs (F := F) p).spec c (V c)
  hentry c := by
    rw [Pipeline.ownSems0_none]
    have hsplit := Pipeline.arrays_of_unscopedBufs (p := p) (pcfgs (F := F)) adm (pdats m) kit.win kit.arr_whole c
      ((pdats m p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m p c).owed 0 = 0 from howed c 0]
      icases HO with ⟨%W, HO⟩; iexists W; isplitr; · ipureintro; exact fun _ _ => Or.inl (by rw [hrec c]; exact Set.mem_univ _)
      iexact HO
    isplitr; · iempintro
    iexact Hrest
  hin c := by
    rw [show (pdats m p c).Φ 0 = _ from hΦ c 0]
    iintro ⟨-, -, Hr⟩; iexact Hr
  hout c := by
    rw [Pipeline.ownSems0_none, show (pdats m p c).Φ (Fin.last _) = _ from hΦ c (Fin.last _)]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ)
      kit.win kit.arr_whole c (pdats m) ((pdats m p c).share_full (hq c)) (V c) (V' c) ((pdats m p c).arrAt · (cfgs (F := F) p).N)
      (hF c) (hne c)
    iintro ⟨Ha, HO, -, Hrest⟩
    imodintro
    isplitl [Ha Hrest]
    · iapply hjoin; isplitl [Ha] <;> iassumption
    unfold Pipeline.Dat.owesAt Pipeline.owesWithin
    rw [show (pdats m p c).owed (Fin.last _) = 0 from howed c (Fin.last _)]
    icases HO with ⟨%W, -, HO⟩; iexists W; iexact HO

/-- An array of a region's windows is in its windows' arrays. -/
theorem mem_arr {p : Fin 3} (w : Fin (cfgs (F := F) p).W) {b : Ref sig .tc} (h : b = Pipeline.arrRef (cfgs (F := F) p).spec w) :
    b ∈ Finset.univ.image (Pipeline.arrRef (cfgs (F := F) p).spec) := Finset.mem_image.mpr ⟨w, Finset.mem_univ _, h.symm⟩

theorem hF0 (c : Dev nD) (w : Fin 4) : (Region0.dat (U := UU) (in0 m) c).arrAt w (cfg0 (F := F)).N = out0 m c (Pipeline.arrRef spec0 w) := by
  fin_cases w
  · exact ((Region0.dat (U := UU) (in0 m) c).arrAt_in 0 rfl _).trans (out0_of m c main_v0 (by decide)).symm
  · exact ((Region0.dat (U := UU) (in0 m) c).arrAt_in 1 rfl _).trans (out0_of m c main_arg1 (by decide)).symm
  · exact (Region0.sums_eq (in0 m) c).trans (V2_sums m c).symm
  · exact (Region0.counts_eq (in0 m) c).trans (V2_counts m c).symm

theorem hF1 (c : Dev nD) (w : Fin 4) : (Region1.dat (U := UU) (in1 m) c).arrAt w (cfg1 (F := F)).N = out1 m c (Pipeline.arrRef spec1 w) := by
  fin_cases w
  · exact ((Region1.dat (U := UU) (in1 m) c).arrAt_in 0 rfl _).trans (out1_of m c main_v4 (by decide)).symm
  · exact ((Region1.dat (U := UU) (in1 m) c).arrAt_in 1 rfl _).trans (out1_of m c main_arg0 (by decide)).symm
  · exact (Region1.sums_eq (in1 m) c).trans (V4_sums m c).symm
  · exact (Region1.counts_eq (in1 m) c).trans (V4_counts m c).symm

set_option maxHeartbeats 2000000 in
theorem hF2 (c : Dev nD) (w : Fin 14) : (Region2.dat (U := UU) (in2 m) c).arrAt w (cfg2 (F := F)).N = out2 m c (Pipeline.arrRef spec2 w) := by
  fin_cases w
  · exact ((Region2.dat (U := UU) (in2 m) c).arrAt_in 0 rfl _).trans (out2_of m c main_v2 (by decide)).symm
  · exact ((Region2.dat (U := UU) (in2 m) c).arrAt_in 1 rfl _).trans (out2_of m c main_v3 (by decide)).symm
  · exact ((Region2.dat (U := UU) (in2 m) c).arrAt_in 2 rfl _).trans (out2_of m c main_v6 (by decide)).symm
  · exact ((Region2.dat (U := UU) (in2 m) c).arrAt_in 3 rfl _).trans (out2_of m c main_v7 (by decide)).symm
  · exact ((Region2.dat (U := UU) (in2 m) c).arrAt_in 4 rfl _).trans (out2_of m c main_arg2 (by decide)).symm
  · exact ((Region2.dat (U := UU) (in2 m) c).arrAt_in 5 rfl _).trans (out2_of m c main_v9 (by decide)).symm
  · exact ((Region2.dat (U := UU) (in2 m) c).arrAt_in 6 rfl _).trans (out2_of m c main_v10 (by decide)).symm
  · exact ((Region2.dat (U := UU) (in2 m) c).arrAt_in 7 rfl _).trans (out2_of m c main_v11 (by decide)).symm
  · exact ((Region2.dat (U := UU) (in2 m) c).arrAt_in 8 rfl _).trans (out2_of m c main_v12 (by decide)).symm
  · exact ((Region2.dat (U := UU) (in2 m) c).arrAt_in 9 rfl _).trans (out2_of m c main_v13 (by decide)).symm
  · exact ((Region2.dat (U := UU) (in2 m) c).arrAt_in 10 rfl _).trans (out2_of m c main_v14 (by decide)).symm
  · exact ((Region2.dat (U := UU) (in2 m) c).arrAt_in 11 rfl _).trans (out2_of m c main_v15 (by decide)).symm
  · exact ((Region2.dat (U := UU) (in2 m) c).arrAt_in 12 rfl _).trans (out2_of m c main_v16 (by decide)).symm
  · exact (Region2.res_eq (in2 m) c).trans (V6_res m c).symm

/-! The invariants are the scoped buffers the pipeline does not stage. -/

theorem pdats0 (c : Dev nD) : pdats m 0 c = Region0.dat (U := UU) (in0 m) c := rfl
theorem inv'0 (c : Dev nD) (t : Fin ((cfg0 (F := F)).N + 1)) : (Region0.dat (U := UU) (in0 m) c).Φ t
    = Pipeline.scopedRest (Ix := Unit) (Name := ℕ) (U := UU) (Lvl := ℕ) (Val := Elt F) spec0 c := rfl
theorem inv0 (c : Dev nD) (t) : (pdats m 0 c).Φ t
    = Pipeline.scopedRest (Ix := Unit) (Name := ℕ) (U := UU) (Lvl := ℕ) (Val := Elt F) ((cfgs (F := F) 0).spec) c := by
  rw [pdats0]; exact inv'0 m c t
theorem arr0 (c : Dev nD) (w) : (pdats m 0 c).A w = in0 m c (Pipeline.arrRef (cfgs (F := F) 0).spec w) := by
  rw [pdats0]; rfl
theorem rec0 (c : Dev nD) : (pdats m 0 c).recorded 0 = Set.univ := by
  rw [pdats0]; rfl

theorem pdats1 (c : Dev nD) : pdats m 1 c = Region1.dat (U := UU) (in1 m) c := rfl
theorem inv'1 (c : Dev nD) (t : Fin ((cfg1 (F := F)).N + 1)) : (Region1.dat (U := UU) (in1 m) c).Φ t
    = Pipeline.scopedRest (Ix := Unit) (Name := ℕ) (U := UU) (Lvl := ℕ) (Val := Elt F) spec1 c := rfl
theorem inv1 (c : Dev nD) (t) : (pdats m 1 c).Φ t
    = Pipeline.scopedRest (Ix := Unit) (Name := ℕ) (U := UU) (Lvl := ℕ) (Val := Elt F) ((cfgs (F := F) 1).spec) c := by
  rw [pdats1]; exact inv'1 m c t
theorem arr1 (c : Dev nD) (w) : (pdats m 1 c).A w = in1 m c (Pipeline.arrRef (cfgs (F := F) 1).spec w) := by
  rw [pdats1]; rfl
theorem rec1 (c : Dev nD) : (pdats m 1 c).recorded 0 = Set.univ := by
  rw [pdats1]; rfl

theorem pdats2 (c : Dev nD) : pdats m 2 c = Region2.dat (U := UU) (in2 m) c := rfl
theorem inv'2 (c : Dev nD) (t : Fin ((cfg2 (F := F)).N + 1)) : (Region2.dat (U := UU) (in2 m) c).Φ t
    = Pipeline.scopedRest (Ix := Unit) (Name := ℕ) (U := UU) (Lvl := ℕ) (Val := Elt F) spec2 c := rfl
theorem inv2 (c : Dev nD) (t) : (pdats m 2 c).Φ t
    = Pipeline.scopedRest (Ix := Unit) (Name := ℕ) (U := UU) (Lvl := ℕ) (Val := Elt F) ((cfgs (F := F) 2).spec) c := by
  rw [pdats2]; exact inv'2 m c t
theorem arr2 (c : Dev nD) (w) : (pdats m 2 c).A w = in2 m c (Pipeline.arrRef (cfgs (F := F) 2).spec w) := by
  rw [pdats2]; rfl
theorem rec2 (c : Dev nD) : (pdats m 2 c).recorded 0 = Set.univ := by
  rw [pdats2]; rfl

/-- The bonds' region, given that the ids it is entered with are below 4096, -/
def reg0 (h : ∀ c t i, (Region0.ids (in0 m) c t i : BitVec 32).toNat < 4096) :
    Pipeline.RegionSeg (pcfgs (F := F)) adm (pdats m) () defs₀ 𝒱₀ L lv 0 :=
  seg m 0 launch0 (in0 m) (out0 m) (fun c => Region0.body_obligation (in0 m) c (h c))
    (inv0 m) (fun _ _ => rfl) (fun _ _ => rfl) (rec0 m) (arr0 m) (hF0 m)
    fun c b hb => out0_of m c b fun h => by
      simp only [List.mem_cons, List.mem_nil_iff, or_false] at h
      rcases h with h | h
      · exact hb (mem_arr (F := F) (p := 0) 2 h)
      · exact hb (mem_arr (F := F) (p := 0) 3 h)

/-- the sites' region, likewise, -/
def reg1 (h : ∀ c t i, (Region1.ids (in1 m) c t i : BitVec 32).toNat < 4096) :
    Pipeline.RegionSeg (pcfgs (F := F)) adm (pdats m) () defs₀ 𝒱₀ L lv 1 :=
  seg m 1 launch1 (in1 m) (out1 m) (fun c => Region1.body_obligation (in1 m) c (h c))
    (inv1 m) (fun _ _ => rfl) (fun _ _ => rfl) (rec1 m) (arr1 m) (hF1 m)
    fun c b hb => out1_of m c b fun h => by
      simp only [List.mem_cons, List.mem_nil_iff, or_false] at h
      rcases h with h | h
      · exact hb (mem_arr (F := F) (p := 1) 2 h)
      · exact hb (mem_arr (F := F) (p := 1) 3 h)

/-- and the perceptron's. -/
def reg2 : Pipeline.RegionSeg (pcfgs (F := F)) adm (pdats m) () defs₀ 𝒱₀ L lv 2 :=
  seg m 2 launch2 (in2 m) (out2 m) (fun c => Region2.body_obligation (in2 m) c)
    (inv2 m) (fun _ _ => rfl) (fun _ _ => rfl) (rec2 m) (arr2 m) (hF2 m)
    fun c b hb => out2_of m c b fun h => by
      simp only [List.mem_cons, List.mem_nil_iff, or_false] at h
      exact hb (mem_arr (F := F) (p := 2) 13 h)

/-! ## The ids the regions are entered with -/

/-- The bonds' ids reach their region reshaped, -/
theorem in0_ids (c : Dev nD) : in0 m c main_v0 = shapeCast S800x1x2000 (m ((c : Thread nD τ).loc main_arg4)) shapeCasts_S1600000_S800x1x2000 := by
  unfold in0 V1; rfl

/-- and so do the sites'. -/
theorem in1_ids (c : Dev nD) : in1 m c main_v4 = shapeCast S125x1x400 (m ((c : Thread nD τ).loc main_arg3)) shapeCasts_S50000_S125x1x400 := by
  unfold in1 V3
  rfl

theorem ids0_lt (h : ∀ (c : Dev nD) n, (m ((c.tc : Thread nD τ).loc main_arg4) n : BitVec 32).toNat < 4096) (c : Dev nD) (t : Fin grid0.N) (i) :
    (Region0.ids (in0 m) c t i : BitVec 32).toNat < 4096 := by
  unfold Region0.ids
  rw [in0_ids]
  exact h c _

theorem ids1_lt (h : ∀ (c : Dev nD) n, (m ((c.tc : Thread nD τ).loc main_arg3) n : BitVec 32).toNat < 4096) (c : Dev nD) (t : Fin grid1.N) (i) :
    (Region1.ids (in1 m) c t i : BitVec 32).toNat < 4096 := by
  unfold Region1.ids
  rw [in1_ids]
  exact h c _

end Cert.KernelIdeal.Segs

end
-- ==== Proof.PI.Run.lean ====
/-
  The program's run, from any memory whose ids are below 4096: every fair execution ends with the result at the last
  region's value, each argument as launched and every semaphore counter at zero.
-/
module

public import proofs.«01_k».proof.Proof.PI.Segs

@[expose] public section

noncomputable section

namespace Cert.KernelIdeal.Run

open Cert.KernelIdeal Cert.KernelIdeal.Gen Cert.KernelIdeal.Segs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The thread states at the regions' ends -/

theorem enter0 (c : Dev nD) : (StableHlo.held (c : Thread nD τ) (Pipeline.ucRefs τ sig) (V1 m c) : sProp 𝕄) = unscopedBufs c (in0 m c) :=
  (Pipeline.unscopedBufs_held c (V1 m c)).symm
theorem leave0 (c : Dev nD) : (unscopedBufs c (out0 m c) : sProp 𝕄) = StableHlo.held (c : Thread nD τ) (Pipeline.ucRefs τ sig) (V2 m (outs m) c) :=
  Pipeline.unscopedBufs_held c (V2 m (outs m) c)
theorem enter1 (c : Dev nD) : (StableHlo.held (c : Thread nD τ) (Pipeline.ucRefs τ sig) (V3 m (outs m) c) : sProp 𝕄) = unscopedBufs c (in1 m c) := by
  rw [in1_eq]; exact (Pipeline.unscopedBufs_held c (V3 m (outs m) c)).symm
theorem leave1 (c : Dev nD) : (unscopedBufs c (out1 m c) : sProp 𝕄) = StableHlo.held (c : Thread nD τ) (Pipeline.ucRefs τ sig) (V4 m (outs m) c) :=
  Pipeline.unscopedBufs_held c (V4 m (outs m) c)
theorem enter2 (c : Dev nD) : (StableHlo.held (c : Thread nD τ) (Pipeline.ucRefs τ sig) (V5 m (outs m) c) : sProp 𝕄) = unscopedBufs c (in2 m c) := by
  rw [in2_eq]; exact (Pipeline.unscopedBufs_held c (V5 m (outs m) c)).symm
theorem leave2 (c : Dev nD) : (unscopedBufs c (out2 m c) : sProp 𝕄) = StableHlo.held (c : Thread nD τ) (Pipeline.ucRefs τ sig) (V6 m (outs m) c) :=
  Pipeline.unscopedBufs_held c (V6 m (outs m) c)

/-! ## The launch -/

/-- The launch element: the pipelines' cells and transfers; no counter. -/
def u₀ : UU := (initOf (Pipeline.cells (cfgs (F := F)) cellOf_inj) (Pipeline.launchToks (cfgs (F := F)) cellOf_inj), 1)

/-- What a final state holds: the result at the last region's value and the arguments as launched. -/
def Post (s : MemSt nD τ sig (Elt F)) (c : Dev nD) : Prop :=
  s.mem ((c.tc : Thread nD τ).loc main_v17) = Region2.res (in2 m) c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

/-- A TensorCore buffer that is not scoped is one of those the thread state holds. -/
theorem mem_uc {b : Ref sig .tc} (h : ¬ (Proc.devRef .tc b : DevRef τ sig).isScoped) :
    (Proc.devRef .tc b : DevRef τ sig) ∈ Pipeline.ucRefs τ sig :=
  Finset.mem_filter.mpr ⟨StableHlo.devRef_mem_tcRefs b, h⟩

set_option backward.isDefEq.respectTransparency.types false in
/-- THE RUN: from any memory whose ids are below 4096, with every counter at zero, every weakly fair execution
    terminates and ends with the result at the last region's value, the arguments unchanged and every counter at zero. -/
theorem run (ρ : Dev nD → PrngReg)
    (h4 : ∀ (c : Dev nD) n, (m ((c.tc : Thread nD τ).loc main_arg4) n : BitVec 32).toNat < 4096)
    (h3 : ∀ (c : Dev nD) n, (m ((c.tc : Thread nD τ).loc main_arg3) n : BitVec 32).toNat < 4096) :
    θ_run defs (onTc (τ := τ) (main (F := F))) ⟨m, fun _ => 0, ρ⟩ (fun r => (∀ c : Dev nD, Post m r.2 c) ∧ r.2.sem = fun _ => 0) :=
  Pipeline.θ_run_regions_kit_sems (pcfgs (F := F)) adm (pdats m) () cellOf_inj
    (embL : Emb (UR sig nD τ) (MT nD τ sig Unit (Elt F) ℕ UU ℕ)) defs₀ 𝒱₀ L lv m ρ main
    [.host (seg0 m 𝒱₀ L lv fun _ => R), .region (reg0 m (ids0_lt m h4)), .host (seg2 m (outs m) 𝒱₀ L lv fun _ => R),
      .region (reg1 m (ids1_lt m h3)), .host (seg4 m (outs m) 𝒱₀ L lv fun _ => R), .region (reg2 m)]
    (fun c Q => by rw [main_segs adm (pdats m) () 𝒱₀ L lv (seg0 m 𝒱₀ L lv fun _ => R) (seg2 m (outs m) 𝒱₀ L lv fun _ => R)
      (seg4 m (outs m) 𝒱₀ L lv fun _ => R) (reg0 m (ids0_lt m h4)) (reg1 m (ids1_lt m h3)) (reg2 m) rfl rfl rfl c])
    (by simp only [Pipeline.Seg.pipes_host, Pipeline.Seg.pipes_region, Pipeline.Seg.pipes_nil]; decide)
    (O₀ := 0) (hL := fun _ _ => rfl) (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => unscopedBufs c (out2 m c))
    (hch := ⟨fun _ => .rfl,
      fun c => sep_mono (Entails.of_eq (enter0 m c)) .rfl, fun c => sep_mono (Entails.of_eq (leave0 m c)) .rfl,
      fun c => sep_mono (Entails.of_eq (enter1 m c)) .rfl, fun c => sep_mono (Entails.of_eq (leave1 m c)) .rfl,
      fun c => sep_mono (Entails.of_eq (enter2 m c)) .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, -, -⟩, -⟩
      imodintro
      isplitl [Hh]; · iexact Hh
      iexists ∅; iexact HO)
    (QY := fun c s => Post m s c)
    (hfin := fun c s' => by
      rw [leave2]
      unfold StableHlo.held
      iintro ⟨Hh, HSI⟩
      ihave Hr := (pointsTo_read_all (Pipeline.ucRefs τ sig) (fun b => ((c : Thread nD τ).1, b)) (V6 m (outs m) c) s') $$ [Hh HSI]
      · isplitl [Hh] <;> iassumption
      icases Hr with ⟨%h, HSI⟩
      imodintro
      isplitr
      · ipureintro
        exact ⟨(h _ (mem_uc (b := main_v17) (by decide))).trans (V6_res m c),
          (h _ (mem_uc (b := main_arg0) (by decide))).trans (V6_main_arg0 m (outs m) c),
          (h _ (mem_uc (b := main_arg1) (by decide))).trans (V6_main_arg1 m (outs m) c),
          (h _ (mem_uc (b := main_arg2) (by decide))).trans (V6_main_arg2 m (outs m) c),
          (h _ (mem_uc (b := main_arg3) (by decide))).trans (V6_main_arg3 m (outs m) c),
          (h _ (mem_uc (b := main_arg4) (by decide))).trans (V6_main_arg4 m (outs m) c),
          (h _ (mem_uc (b := main_arg5) (by decide))).trans (V6_main_arg5 m (outs m) c),
          (h _ (mem_uc (b := main_arg6) (by decide))).trans (V6_main_arg6 m (outs m) c),
          (h _ (mem_uc (b := main_arg7) (by decide))).trans (V6_main_arg7 m (outs m) c),
          (h _ (mem_uc (b := main_arg8) (by decide))).trans (V6_main_arg8 m (outs m) c),
          (h _ (mem_uc (b := main_arg9) (by decide))).trans (V6_main_arg9 m (outs m) c),
          (h _ (mem_uc (b := main_arg10) (by decide))).trans (V6_main_arg10 m (outs m) c)⟩
      iexact HSI)
    (hQ := fun _ h hz => ⟨h, funext fun g => hz g (.inr (regions_no_unscoped g.2))⟩)

end Cert.KernelIdeal.Run

end
-- ==== Proof.Frames.lean ====
/-
  The frames: under the precondition the kernel, as printed and idealized, ends with its arguments unchanged and every
  semaphore counter at zero; the reference does so from any memory.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Pre
public import proofs.«01_k».proof.Proof.P.Run
public import proofs.«01_k».proof.Proof.PI.Run

@[expose] public section

noncomputable section

namespace Cert.Frames

open Idealize.ShloMosaic Idealize.SL.Sem

/-- The kernel as printed keeps its arguments and leaves every counter at zero. -/
theorem kernel : Cert.quiescent_Kernel := fun m g hm =>
  (θ_run Cert.Kernel.defs _ _).mono (fun _ h => ⟨fun c => (h.1 c).2, h.2⟩)
    (Cert.Kernel.Run.run m g (fun c => (Cert.Pre.ranges (hm c)).2) (fun c => (Cert.Pre.ranges (hm c)).1))

/-- The idealized kernel keeps its arguments and leaves every counter at zero. -/
theorem kernelIdeal : Cert.quiescent_KernelIdeal := fun m g hm =>
  (θ_run Cert.KernelIdeal.defs _ _).mono (fun _ h => ⟨fun c => (h.1 c).2, h.2⟩)
    (Cert.KernelIdeal.Run.run m g (fun c => (Cert.Pre.ranges (hm c)).2) (fun c => (Cert.Pre.ranges (hm c)).1))

/-- The reference keeps its arguments; it declares no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The same under the precondition, which it does not use. -/
theorem reference_in_range : Cert.quiescent_ReferenceIdeal_pre_in_range := fun m g _ => reference m g trivial

end Cert.Frames

end
-- ==== Proof.Segment.lean ====
/-
  Sums by segment over the extended reals: the rows of a table whose id is a given number, added up.
-/
module

public import Idealize.ShloMosaic.Lib.ValueIdx
public import Idealize.ShloMosaic.PureOps.Ideal

@[expose] public section

noncomputable section

namespace Cert.Segment

open Idealize.ShloMosaic
open scoped BigOperators

/-- 1 where the id is `g`, else 0. -/
def hit (x : BitVec 32) (g : ℕ) : EReal := if x.toNat = g then 1 else 0

/-- No id is `g`: the segment is empty and its sum is zero. -/
theorem sum_none {ι : Type} [Fintype ι] (id : ι → BitVec 32) (f : ι → EReal) (g : ℕ) (h : ∀ i, (id i).toNat ≠ g) :
    ∑ i, hit (id i) g * f i = 0 :=
  Finset.sum_eq_zero fun i _ => by rw [hit, if_neg (h i), zero_mul]

/-- The same of the number of ids that are `g`. -/
theorem count_none {ι : Type} [Fintype ι] (id : ι → BitVec 32) (g : ℕ) (h : ∀ i, (id i).toNat ≠ g) :
    ∑ i, hit (id i) g = 0 :=
  Finset.sum_eq_zero fun i _ => by rw [hit, if_neg (h i)]

/-- A one-bit word of a decision, widened and made a float, is 1 or 0. -/
theorem bit_value (p : Prop) [Decidable p] :
    ((((BitVec.ofBool (decide p)).setWidth 32).toInt : ℝ) : EReal) = if p then 1 else 0 := by
  by_cases h : p
  · simp [h]
  · simp [h]

end Cert.Segment

end
-- ==== Proof.Spec.lean ====
/-
  The function that kernel and reference share, over the extended reals: means by segment, and layers of a perceptron.
-/
module

public import proofs.«01_k».proof.Proof.Segment
public import Idealize.ShloMosaic.PureOps.Ideal

@[expose] public section

noncomputable section

namespace Cert.Spec

open Idealize.ShloMosaic Cert.Segment
open scoped BigOperators

/-- The mean of the numbers `f n` whose id is `g`; of none of them, 0 divided by 1. -/
def mean {N : ℕ} (id : Fin N → BitVec 32) (f : Fin N → EReal) (g : ℕ) : EReal :=
  Ideal.div (∑ n, hit (id n) g * f n) (max (∑ n, hit (id n) g) 1)

/-- One output of the first layer, from its three inputs, its row of weights and its bias. -/
def layer1 (B : Fin 16 → EReal) (S T : Fin 128 → EReal) (w : Fin 272 → EReal) (b : EReal) : EReal :=
  max (((∑ k : Fin 16, B k * w ⟨k.val, by omega⟩) + (∑ k : Fin 128, S k * w ⟨16 + k.val, by omega⟩)
    + ∑ k : Fin 128, T k * w ⟨144 + k.val, by omega⟩) + b) 0

/-- One output of a later layer, from its inputs, its row of weights and its bias. -/
def layer {n : ℕ} (A w : Fin n → EReal) (b : EReal) : EReal := max ((∑ k, A k * w k) + b) 0

/-- The first layer's product over its inputs laid side by side is the sum of the three parts' products. -/
theorem sum_parts (B : Fin 16 → EReal) (S T : Fin 128 → EReal) (w : Fin 272 → EReal) :
    ∑ x : Fin 272, (if h : x.val < 16 then B ⟨x.val, h⟩
        else if h' : x.val - 16 < 128 then S ⟨x.val - 16, h'⟩ else T ⟨x.val - 16 - 128, by omega⟩) * w x
      = (∑ k : Fin 16, B k * w ⟨k.val, by omega⟩) + (∑ k : Fin 128, S k * w ⟨16 + k.val, by omega⟩)
        + ∑ k : Fin 128, T k * w ⟨144 + k.val, by omega⟩ := by
  refine (Fin.sum_univ_add (a := 16) (b := 256) _).trans ?_
  rw [add_assoc]
  refine congrArg₂ (· + ·) (Finset.sum_congr rfl fun k _ => ?_)
    ((Fin.sum_univ_add (a := 128) (b := 128) _).trans
      (congrArg₂ (· + ·) (Finset.sum_congr rfl fun k _ => ?_) (Finset.sum_congr rfl fun k _ => ?_)))
  · have hk := k.isLt
    rw [dif_pos (show (Fin.castAdd 256 k).val < 16 from hk)]
    rfl
  · have hk := k.isLt
    have e : (Fin.natAdd 16 (Fin.castAdd 128 k)).val = 16 + k.val := rfl
    rw [dif_neg (by omega), dif_pos (by omega)]
    refine congrArg₂ (· * ·) (congrArg S (Fin.ext ?_)) rfl
    show 16 + k.val - 16 = k.val
    omega
  · have hk := k.isLt
    have e : (Fin.natAdd 16 (Fin.natAdd 128 k)).val = 16 + (128 + k.val) := rfl
    rw [dif_neg (by omega), dif_neg (by omega)]
    refine congrArg₂ (· * ·) (congrArg T (Fin.ext ?_)) (congrArg w (Fin.ext ?_))
    · show 16 + (128 + k.val) - 16 - 128 = k.val
      omega
    · show 16 + (128 + k.val) = 144 + k.val
      omega

end Cert.Spec

end
-- ==== Proof.Scatter.lean ====
/-
  A segment sum as the host prints it, a scatter that adds rows at given ids, over the extended reals: a row of the
  result is what was there plus the rows whose id names it.
-/
module

public import proofs.«01_k».proof.Proof.Segment
public import proofs.«01_k».proof.Proof.Spec
public import Idealize.ShloMosaic.Lib.Routing.OpsPair
public import Idealize.ShloMosaic.Lib.Pointwise
public import Idealize.ShloMosaic.PureOps.Ideal

@[expose] public section

noncomputable section

namespace Cert.Scatter

open Idealize.ShloMosaic Cert.Segment
open scoped BigOperators

variable {G K N : ℕ}

/-- The dimension numbers of a sum of rows by segment: one id for each update, an update that is a row. -/
def rowDims (G K N : ℕ) (h : ScatterDims.WF ⟨2, ![G, K]⟩ ⟨2, ![N, 1]⟩ ⟨2, ![N, K]⟩ [1] [0] [0] 1) :
    ScatterDims ⟨2, ![G, K]⟩ ⟨2, ![N, 1]⟩ ⟨2, ![N, K]⟩ where
  updateWindowDims := [1]
  insertedWindowDims := [0]
  scatterDimsToOperandDims := [0]
  indexVectorDim := 1
  wf := h

/-- The same of a sum of numbers by segment. -/
def numDims (G N : ℕ) (h : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := h

/-- An id read signed is a row's number exactly when it is so read unsigned. -/
theorem signed (x : BitVec 32) (hx : x.toNat < 4096) (g : ℕ) : x.toInt = (g : Int) ↔ x.toNat = g := by
  rw [BitVec.toInt_eq_toNat_of_lt (by omega)]
  omega

/-- Where a row of the updates lands: at the row its id names, column for column. -/
theorem row_lands (h) (idx : IVec (⟨2, ![N, 1]⟩ : Shape) 32) (n : Fin N) (k' : Fin K) (g : Fin G) (k : Fin K) :
    (rowDims G K N h).resultIdx? (ix2 n k') idx = some (ix2 g k) ↔ (idx (ix2 n 0)).toInt = (g.val : Int) ∧ k' = k := by
  have hs : (rowDims G K N h).siIdx (ix2 n k') ⟨0, Nat.one_pos⟩ = ix2 n 0 := by
    funext b
    match b with
    | ⟨0, _⟩ => rfl
    | ⟨1, _⟩ => exact Subsingleton.elim (α := Fin 1) _ _
  have h0 : (rowDims G K N h).start (ix2 n k') idx 0 = (idx (ix2 n 0)).toInt := by
    rw [← hs]; rfl
  have h1 : (rowDims G K N h).start (ix2 n k') idx 1 = 0 := rfl
  have w0 : (rowDims G K N h).window (ix2 n k') 0 = 0 := rfl
  have w1 : (rowDims G K N h).window (ix2 n k') 1 = k'.val := rfl
  rw [Routing.resultIdx?_eq_some]
  constructor
  · intro H
    have a0 := H 0
    have a1 := H 1
    rw [h0, w0] at a0
    rw [h1, w1] at a1
    have b0 : (idx (ix2 n 0)).toInt + ((0 : ℕ) : Int) = (g.val : Int) := a0
    have b1 : (0 : Int) + (k'.val : Int) = (k.val : Int) := a1
    exact ⟨by omega, Fin.ext (by omega)⟩
  · rintro ⟨e, rfl⟩ a
    match a with
    | ⟨0, _⟩ =>
      show (rowDims G K N h).start (ix2 n k') idx 0 + (((rowDims G K N h).window (ix2 n k') 0 : ℕ) : Int) = (g.val : Int)
      rw [h0, w0, e]; omega
    | ⟨1, _⟩ =>
      show (rowDims G K N h).start (ix2 n k') idx 1 + (((rowDims G K N h).window (ix2 n k') 1 : ℕ) : Int) = (k'.val : Int)
      rw [h1, w1]; omega

/-- Where a number lands: at the place its id names. -/
theorem num_lands (h) (idx : IVec (⟨2, ![N, 1]⟩ : Shape) 32) (n : Fin N) (g : Fin G) :
    (numDims G N h).resultIdx? (ix1 n) idx = some (ix1 g) ↔ (idx (ix2 n 0)).toInt = (g.val : Int) := by
  have hs : (numDims G N h).siIdx (ix1 n) ⟨0, Nat.one_pos⟩ = ix2 n 0 := by
    funext b
    match b with
    | ⟨0, _⟩ => rfl
    | ⟨1, _⟩ => exact Subsingleton.elim (α := Fin 1) _ _
  have h0 : (numDims G N h).start (ix1 n) idx 0 = (idx (ix2 n 0)).toInt := by
    rw [← hs]; rfl
  have w0 : (numDims G N h).window (ix1 n) 0 = 0 := rfl
  rw [Routing.resultIdx?_eq_some]
  constructor
  · intro H
    have a0 := H 0
    rw [h0, w0] at a0
    have b0 : (idx (ix2 n 0)).toInt + ((0 : ℕ) : Int) = (g.val : Int) := a0
    omega
  · intro e a
    match a with
    | ⟨0, _⟩ =>
      show (numDims G N h).start (ix1 n) idx 0 + (((numDims G N h).window (ix1 n) 0 : ℕ) : Int) = (g.val : Int)
      rw [h0, w0, e]; omega

variable (idx : IVec (⟨2, ![N, 1]⟩ : Shape) 32) (id : Fin N → BitVec 32) (hid : ∀ n, idx (ix2 n 0) = id n)
  (hlt : ∀ n, (id n).toNat < 4096)
include hid hlt

/-- A row of a sum of rows by segment. -/
theorem rows (h) (x : FVec Ideal (⟨2, ![G, K]⟩ : Shape) .f32) (upd : FVec Ideal (⟨2, ![N, K]⟩ : Shape) .f32) (g : Fin G) (k : Fin K) :
    Ideal.hostScatterAdd (rowDims G K N h) x idx upd (ix2 g k)
      = x (ix2 g k) + ∑ n : Fin N, hit (id n) g.val * upd (ix2 n k) := by
  unfold Ideal.hostScatterAdd
  refine congrArg (x (ix2 g k) + ·) ?_
  rw [Finset.sum_filter, Idealize.ShloMosaic.sum_idx2]
  refine Finset.sum_congr rfl fun n _ => ?_
  simp only [row_lands, hid, signed _ (hlt n)]
  unfold hit
  by_cases e : (id n).toNat = g.val
  · simp [e]
  · simp [e]

/-- A place of a sum of numbers by segment. -/
theorem nums (h) (x : FVec Ideal (⟨1, ![G]⟩ : Shape) .f32) (upd : FVec Ideal (⟨1, ![N]⟩ : Shape) .f32) (g : Fin G) :
    Ideal.hostScatterAdd (numDims G N h) x idx upd (ix1 g) = x (ix1 g) + ∑ n : Fin N, hit (id n) g.val * upd (ix1 n) := by
  unfold Ideal.hostScatterAdd
  refine congrArg (x (ix1 g) + ·) ?_
  rw [Finset.sum_filter, Idealize.ShloMosaic.sum_idx1]
  refine Finset.sum_congr rfl fun n _ => ?_
  simp only [num_lands, hid, signed _ (hlt n)]
  unfold hit
  by_cases e : (id n).toNat = g.val
  · simp [e]
  · simp [e]

/-- The quotient of the two is the segment's mean, where both start at zero and each id counts one. -/
theorem mean_apply (h) (h') (x : FVec Ideal (⟨2, ![G, K]⟩ : Shape) .f32) (upd : FVec Ideal (⟨2, ![N, K]⟩ : Shape) .f32)
    (y : FVec Ideal (⟨1, ![G]⟩ : Shape) .f32) (u : FVec Ideal (⟨1, ![N]⟩ : Shape) .f32) (one : EReal) (g : Fin G) (k : Fin K)
    (hx : x (ix2 g k) = 0) (hy : y (ix1 g) = 0) (hu : ∀ n, u (ix1 n) = 1) (h1 : one = 1) :
    Ideal.div (Ideal.hostScatterAdd (rowDims G K N h) x idx upd (ix2 g k))
        (max one (Ideal.hostScatterAdd (numDims G N h') y idx u (ix1 g)))
      = Cert.Spec.mean id (fun n => upd (ix2 n k)) g.val := by
  rw [rows idx id hid hlt, nums idx id hid hlt, hx, hy, h1, zero_add, zero_add, max_comm]
  unfold Cert.Spec.mean
  simp only [hu, mul_one]

omit hid hlt

/-! ## The means as printed -/

/-- No axes. -/
abbrev none0 : Shape := ⟨0, ![]⟩

/-- The word of 1.0 is the number 1, -/
theorem one (i : none0.Idx) : (constant (F := Ideal) none0 .f32 0x3F800000#32) i = 1 := by pointwise
/-- and that of 0.0 is 0. -/
theorem zero (i : none0.Idx) : (constant (F := Ideal) none0 .f32 0x00000000#32) i = 0 := by pointwise

/-- A column of ids laid out as rows of one id. -/
theorem column (w : IVec (⟨1, ![N]⟩ : Shape) 32) (h : (⟨1, ![N]⟩ : Shape).BroadcastsInDim ⟨2, ![N, 1]⟩ ![0]) (n : Fin N) :
    broadcastInDim (⟨2, ![N, 1]⟩ : Shape) ![0] h w (ix2 n 0) = w (ix1 n) := by
  unfold broadcastInDim
  refine congrArg w (funext fun a => Fin.ext ?_)
  match a with
  | ⟨0, _⟩ =>
    by_cases e : N = 1
    · subst e
      rw [Fin.fin_one_eq_zero n]
      exact congrArg Fin.val (dif_pos rfl)
    · exact congrArg Fin.val (dif_neg e)

/-- A quotient by a column laid along the rows. -/
theorem quotient (a : FVec Ideal (⟨2, ![G, K]⟩ : Shape) .f32) (v : FVec Ideal (⟨1, ![G]⟩ : Shape) .f32)
    (h1 : (⟨1, ![G]⟩ : Shape).BroadcastsInDim ⟨2, ![G, 1]⟩ ![0]) (h2 : (⟨2, ![G, 1]⟩ : Shape).BroadcastsInDim ⟨2, ![G, K]⟩ ![0, 1])
    (g : Fin G) (k : Fin K) :
    Host.divf a (broadcastInDim (⟨2, ![G, K]⟩ : Shape) ![0, 1] h2 (broadcastInDim (⟨2, ![G, 1]⟩ : Shape) ![0] h1 v)) (ix2 g k)
      = Ideal.div (a (ix2 g k)) (v (ix1 g)) := by
  pointwise
  refine congrArg (fun i => Ideal.div (a (ix2 g k)) (v i)) (funext fun b => Fin.ext ?_)
  match b with
  | ⟨0, _⟩ =>
    by_cases e : G = 1
    · subst e
      rw [Fin.fin_one_eq_zero g]
      rfl
    · refine (congrArg Fin.val (dif_neg e)).trans ?_
      exact congrArg Fin.val (dif_neg e)

/-- The means of rows by segment as the host prints them: the sums divided by the counts, these at least 1. -/
theorem means (h) (h') (hlt : ∀ n, (id n).toNat < 4096) (w : IVec (⟨1, ![N]⟩ : Shape) 32) (hw : ∀ n, w (ix1 n) = id n) (upd : FVec Ideal (⟨2, ![N, K]⟩ : Shape) .f32)
    (hN : (⟨1, ![N]⟩ : Shape).BroadcastsInDim ⟨2, ![N, 1]⟩ ![0])
    (h0 : none0.BroadcastsInDim (⟨2, ![G, K]⟩ : Shape) ![]) (h3 : none0.BroadcastsInDim (⟨1, ![G]⟩ : Shape) ![])
    (h4 : none0.BroadcastsInDim (⟨1, ![N]⟩ : Shape) ![])
    (h1 : (⟨1, ![G]⟩ : Shape).BroadcastsInDim ⟨2, ![G, 1]⟩ ![0]) (h2 : (⟨2, ![G, 1]⟩ : Shape).BroadcastsInDim ⟨2, ![G, K]⟩ ![0, 1])
    (g : Fin G) (k : Fin K) :
    Host.divf (Host.scatterAdd (F := Ideal) (rowDims G K N h)
        (broadcastInDim (⟨2, ![G, K]⟩ : Shape) ![] h0 (constant none0 .f32 0x00000000#32)) (broadcastInDim (⟨2, ![N, 1]⟩ : Shape) ![0] hN w) upd)
      (broadcastInDim (⟨2, ![G, K]⟩ : Shape) ![0, 1] h2 (broadcastInDim (⟨2, ![G, 1]⟩ : Shape) ![0] h1
        (maximumf (broadcastInDim (⟨1, ![G]⟩ : Shape) ![] h3 (_root_.id (constant none0 .f32 0x3F800000#32)))
          (Host.scatterAdd (F := Ideal) (numDims G N h') (broadcastInDim (⟨1, ![G]⟩ : Shape) ![] h3 (constant none0 .f32 0x00000000#32))
            (broadcastInDim (⟨2, ![N, 1]⟩ : Shape) ![0] hN w)
            (broadcastInDim (⟨1, ![N]⟩ : Shape) ![] h4 (constant none0 .f32 0x3F800000#32)))))) (ix2 g k)
      = Cert.Spec.mean id (fun n => upd (ix2 n k)) g.val := by
  rw [quotient]
  exact mean_apply _ id (fun n => (column w hN n).trans (hw n)) hlt h h' _ upd _ _ _ g k (zero _) (zero _) (fun _ => one _) (one fun a => a.elim0)

end Cert.Scatter

end
-- ==== Proof.Reference.lean ====
/-
  What the reference computes over the extended reals: its segment means and its three layers, at an index.
-/
module

public import proofs.«01_k».proof.Proof.Gen.ReferenceIdeal
public import proofs.«01_k».proof.Proof.Spec
public import proofs.«01_k».proof.Proof.Scatter
public import Idealize.ShloMosaic.Lib.Pointwise

@[expose] public section

set_option maxRecDepth 16384

noncomputable section

namespace Cert.ReferenceIdeal.Layers

open Cert.ReferenceIdeal Cert.Segment Cert.Spec
open Cert.ReferenceIdeal.Facts₀ Cert.ReferenceIdeal.Facts
open Idealize.ShloMosaic Idealize.ShloMosaic.TcCoe
open scoped BigOperators

variable [Facts]

/-- The bonds' means as the reference prints them. -/
abbrev bondMeans (ids : IVec S1600000 32) (D : FVec Ideal S1600000x16 .f32) : FVec Ideal S4096x16 .f32 :=
  Host.divf (Host.scatterAdd (F := Ideal) scatter_S4096x16_S1600000x1_S1600000x16_1_0_0_1
      (broadcastInDim S4096x16 ![] bcast_S_S4096x16 (constant S_ .f32 0x00000000#32))
      (broadcastInDim S1600000x1 ![0] bcast_S1600000_S1600000x1_0 ids) D)
    (broadcastInDim S4096x16 ![0, 1] bcast_S4096x1_S4096x16_0_1 (broadcastInDim S4096x1 ![0] bcast_S4096_S4096x1_0
      (maximumf (broadcastInDim S4096 ![] bcast_S_S4096 (id (constant S_ .f32 0x3F800000#32)))
        (Host.scatterAdd (F := Ideal) scatter_S4096_S1600000x1_S1600000_n_0_0_1
          (broadcastInDim S4096 ![] bcast_S_S4096 (constant S_ .f32 0x00000000#32))
          (broadcastInDim S1600000x1 ![0] bcast_S1600000_S1600000x1_0 ids)
          (broadcastInDim S1600000 ![] bcast_S_S1600000 (constant S_ .f32 0x3F800000#32))))))

/-- A bonds' mean. -/
theorem bondMeans_apply (ids : IVec S1600000 32) (hid : ∀ n, (ids n).toNat < 4096) (D : FVec Ideal S1600000x16 .f32)
    (g : Fin 4096) (k : Fin 16) :
    bondMeans ids D (ix2 g k) = mean (fun n : Fin 1600000 => ids (ix1 n)) (fun n => D (ix2 n k)) g.val :=
  Cert.Scatter.means (fun n => ids (ix1 n)) scatter_S4096x16_S1600000x1_S1600000x16_1_0_0_1_wf scatter_S4096_S1600000x1_S1600000_n_0_0_1_wf
    (fun _ => hid _) ids (fun _ => rfl) D bcast_S1600000_S1600000x1_0 bcast_S_S4096x16 bcast_S_S4096 bcast_S_S1600000
    bcast_S4096_S4096x1_0 bcast_S4096x1_S4096x16_0_1 g k

/-- The sites' means as the reference prints them. -/
abbrev siteMeans (ids : IVec S50000 32) (D : FVec Ideal S50000x128 .f32) : FVec Ideal S4096x128 .f32 :=
  Host.divf (Host.scatterAdd (F := Ideal) scatter_S4096x128_S50000x1_S50000x128_1_0_0_1
      (broadcastInDim S4096x128 ![] bcast_S_S4096x128 (constant S_ .f32 0x00000000#32))
      (broadcastInDim S50000x1 ![0] bcast_S50000_S50000x1_0 ids) D)
    (broadcastInDim S4096x128 ![0, 1] bcast_S4096x1_S4096x128_0_1 (broadcastInDim S4096x1 ![0] bcast_S4096_S4096x1_0
      (maximumf (broadcastInDim S4096 ![] bcast_S_S4096 (id (constant S_ .f32 0x3F800000#32)))
        (Host.scatterAdd (F := Ideal) scatter_S4096_S50000x1_S50000_n_0_0_1
          (broadcastInDim S4096 ![] bcast_S_S4096 (constant S_ .f32 0x00000000#32))
          (broadcastInDim S50000x1 ![0] bcast_S50000_S50000x1_0 ids)
          (broadcastInDim S50000 ![] bcast_S_S50000 (constant S_ .f32 0x3F800000#32))))))

/-- A sites' mean. -/
theorem siteMeans_apply (ids : IVec S50000 32) (hid : ∀ n, (ids n).toNat < 4096) (D : FVec Ideal S50000x128 .f32)
    (g : Fin 4096) (k : Fin 128) :
    siteMeans ids D (ix2 g k) = mean (fun n : Fin 50000 => ids (ix1 n)) (fun n => D (ix2 n k)) g.val :=
  Cert.Scatter.means (fun n => ids (ix1 n)) scatter_S4096x128_S50000x1_S50000x128_1_0_0_1_wf scatter_S4096_S50000x1_S50000_n_0_0_1_wf
    (fun _ => hid _) ids (fun _ => rfl) D bcast_S50000_S50000x1_0 bcast_S_S4096x128 bcast_S_S4096 bcast_S_S50000
    bcast_S4096_S4096x1_0 bcast_S4096x1_S4096x128_0_1 g k

/-- The first layer as the reference prints it, of the three parts that it lays side by side. -/
abbrev first (B : FVec Ideal S4096x16 .f32) (S T : FVec Ideal S4096x128 .f32) (W : FVec Ideal S256x272 .f32) (b : FVec Ideal S256 .f32) :
    FVec Ideal S4096x256 .f32 :=
  maximumf (addf (Host.dotGeneral dot_S4096x272_S272x256_S4096x256_1_0_0_1_n_n none
        (concatenate S4096x272 1 [⟨S4096x16, B⟩, ⟨S4096x128, S⟩, ⟨S4096x128, T⟩] concatenates_S4096x16_S4096x128_S4096x128_S4096x272_d1)
        (transpose S272x256 [1, 0] W transposes_S256x272_S272x256_1_0))
      (broadcastInDim S4096x256 ![0, 1] bcast_S1x256_S4096x256_0_1 (broadcastInDim S1x256 ![1] bcast_S256_S1x256_1 b)))
    (broadcastInDim S4096x256 ![] bcast_S_S4096x256 (constant S_ .f32 0x00000000#32))

/-- One number of the first layer, -/
theorem first_apply (B : FVec Ideal S4096x16 .f32) (S T : FVec Ideal S4096x128 .f32) (W : FVec Ideal S256x272 .f32) (b : FVec Ideal S256 .f32)
    (g : Fin 4096) (j : Fin 256) :
    first B S T W b (ix2 g j) = layer1 (fun k => B (ix2 g k)) (fun k => S (ix2 g k)) (fun k => T (ix2 g k)) (fun k => W (ix2 j k)) (b (ix1 j)) := by
  unfold first
  pointwise
  rw [sum_parts (fun k => B (ix2 g k)) (fun k => S (ix2 g k)) (fun k => T (ix2 g k)) (fun k => W (ix2 j k))]
  rfl

/-- The second layer as the reference prints it, -/
abbrev second (A : FVec Ideal S4096x256 .f32) (W : FVec Ideal S128x256 .f32) (b : FVec Ideal S128 .f32) : FVec Ideal S4096x128 .f32 :=
  maximumf (addf (Host.dotGeneral dot_S4096x256_S256x128_S4096x128_1_0_0_1_n_n none A
        (transpose S256x128 [1, 0] W transposes_S128x256_S256x128_1_0))
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))

/-- of the second -/
theorem second_apply (A : FVec Ideal S4096x256 .f32) (W : FVec Ideal S128x256 .f32) (b : FVec Ideal S128 .f32) (g : Fin 4096) (j : Fin 128) :
    second A W b (ix2 g j) = layer (fun k => A (ix2 g k)) (fun k => W (ix2 j k)) (b (ix1 j)) := by
  unfold second
  pointwise
  rfl

/-- and the third. -/
abbrev third (A : FVec Ideal S4096x128 .f32) (W : FVec Ideal S128x128 .f32) (b : FVec Ideal S128 .f32) : FVec Ideal S4096x128 .f32 :=
  maximumf (addf (Host.dotGeneral dot_S4096x128_S128x128_S4096x128_1_0_0_1_n_n none A
        (transpose S128x128 [1, 0] W transposes_S128x128_S128x128_1_0))
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))

/-- and of the third. -/
theorem third_apply (A : FVec Ideal S4096x128 .f32) (W : FVec Ideal S128x128 .f32) (b : FVec Ideal S128 .f32) (g : Fin 4096) (j : Fin 128) :
    third A W b (ix2 g j) = layer (fun k => A (ix2 g k)) (fun k => W (ix2 j k)) (b (ix1 j)) := by
  unfold third
  pointwise
  rfl

/-- The reference's result as it prints it, of its eleven arguments. -/
abbrev result (a0 : FVec Ideal S50000x128 .f32) (a1 : FVec Ideal S1600000x16 .f32) (a2 : FVec Ideal S4096x128 .f32)
    (a3 : IVec S50000 32) (a4 : IVec S1600000 32) (a5 : FVec Ideal S256x272 .f32) (a6 : FVec Ideal S256 .f32)
    (a7 : FVec Ideal S128x256 .f32) (a8 : FVec Ideal S128 .f32) (a9 : FVec Ideal S128x128 .f32) (a10 : FVec Ideal S128 .f32) :
    FVec Ideal S4096x128 .f32 :=
  third (second (first (bondMeans a4 a1) (siteMeans a3 a0) a2 a5 a6) a7 a8) a9 a10

/-- One number of the reference's result: three layers over the means of the bonds, those of the sites and the states. -/
theorem result_apply (a0 : FVec Ideal S50000x128 .f32) (a1 : FVec Ideal S1600000x16 .f32) (a2 : FVec Ideal S4096x128 .f32)
    (a3 : IVec S50000 32) (h3 : ∀ n, (a3 n).toNat < 4096) (a4 : IVec S1600000 32) (h4 : ∀ n, (a4 n).toNat < 4096)
    (a5 : FVec Ideal S256x272 .f32) (a6 : FVec Ideal S256 .f32) (a7 : FVec Ideal S128x256 .f32) (a8 : FVec Ideal S128 .f32)
    (a9 : FVec Ideal S128x128 .f32) (a10 : FVec Ideal S128 .f32) (g : Fin 4096) (j : Fin 128) :
    result a0 a1 a2 a3 a4 a5 a6 a7 a8 a9 a10 (ix2 g j)
      = layer (fun k : Fin 128 => layer (fun k' : Fin 256 =>
            layer1 (fun i => mean (fun n : Fin 1600000 => a4 (ix1 n)) (fun n => a1 (ix2 n i)) g.val)
              (fun i => mean (fun n : Fin 50000 => a3 (ix1 n)) (fun n => a0 (ix2 n i)) g.val)
              (fun i => a2 (ix2 g i)) (fun i => a5 (ix2 k' i)) (a6 (ix1 k')))
          (fun k' => a7 (ix2 k k')) (a8 (ix1 k))) (fun k => a9 (ix2 j k)) (a10 (ix1 j)) := by
  rw [result, third_apply]
  refine congrArg (fun A => layer A (fun k => a9 (ix2 j k)) (a10 (ix1 j))) (funext fun k => ?_)
  rw [second_apply]
  refine congrArg (fun A => layer A (fun k' => a7 (ix2 k k')) (a8 (ix1 k))) (funext fun k' => ?_)
  rw [first_apply]
  exact congrArg₂ (fun B S => layer1 B S (fun i => a2 (ix2 g i)) (fun i => a5 (ix2 k' i)) (a6 (ix1 k')))
    (funext fun i => bondMeans_apply a4 h4 a1 g i) (funext fun i => siteMeans_apply a3 h3 a0 g i)

end Cert.ReferenceIdeal.Layers

end
-- ==== Proof.Rows.lean ====
/-
  A window of whole rows laid over a table, at an index: inside the window its contents, outside the table's.
-/
module

public import Idealize.ShloMosaic.Lib.Memref
public import Idealize.ShloMosaic.Lib.Pointwise

@[expose] public section

noncomputable section

namespace Cert.Rows

open Idealize.ShloMosaic

variable {R C w : ℕ} {α : Type} {off : Fin 2 → ℕ}

/-- A window of `w` whole rows from row `a`. -/
abbrev rows (R C w : ℕ) (off : Fin 2 → ℕ) (inb : ∀ d, off d + (![w, C] : Fin 2 → ℕ) d ≤ (![R, C] : Fin 2 → ℕ) d) :
    Rect (⟨2, ![R, C]⟩ : Shape) :=
  Rect.unit (s := ⟨2, ![R, C]⟩) off ![w, C] inb

/-- Row `r` of the window is the table's row `a + r`. -/
theorem emb_row (a : ℕ) (h0 : off 0 = a) (h1 : off 1 = 0)
    (inb : ∀ d, off d + (![w, C] : Fin 2 → ℕ) d ≤ (![R, C] : Fin 2 → ℕ) d) (r : Fin w) (g : Fin R) (hg : g.val = a + r.val) (k : Fin C) :
    (rows R C w off inb).emb (ix2 r k) = ix2 g k := by
  funext d
  apply Fin.ext
  rw [Rect.emb_apply]
  match d with
  | ⟨0, _⟩ =>
    show off 0 + 1 * r.val = g.val
    omega
  | ⟨1, _⟩ =>
    show off 1 + 1 * k.val = k.val
    omega

/-- The table after the window is laid over it, at a row of the window; -/
theorem overlay_in (a : ℕ) (h0 : off 0 = a) (h1 : off 1 = 0)
    (inb : ∀ d, off d + (![w, C] : Fin 2 → ℕ) d ≤ (![R, C] : Fin 2 → ℕ) d) (X : (⟨2, ![R, C]⟩ : Shape).Idx → α)
    (G : (⟨2, ![w, C]⟩ : Shape).Idx → α) (r : Fin w) (g : Fin R) (hg : g.val = a + r.val) (k : Fin C) :
    (rows R C w off inb).overlay X G (ix2 g k) = G (ix2 r k) := by
  rw [← emb_row a h0 h1 inb r g hg k]
  exact Rect.overlay_emb (rows R C w off inb) X G (ix2 r k)

/-- and at any other row. -/
theorem overlay_out (a : ℕ) (h0 : off 0 = a)
    (inb : ∀ d, off d + (![w, C] : Fin 2 → ℕ) d ≤ (![R, C] : Fin 2 → ℕ) d) (X : (⟨2, ![R, C]⟩ : Shape).Idx → α)
    (G : (⟨2, ![w, C]⟩ : Shape).Idx → α) (g : Fin R) (hg : ¬ (a ≤ g.val ∧ g.val < a + w)) (k : Fin C) :
    (rows R C w off inb).overlay X G (ix2 g k) = X (ix2 g k) := by
  refine Rect.overlay_of_not_mem (rows R C w off inb) X G fun hm => hg ?_
  have h : off 0 ≤ g.val ∧ g.val < off 0 + w := Rect.mem_set_unit.1 hm 0
  omega

end Cert.Rows

end
-- ==== Proof.PI.Value0.lean ====
/-
  The bonds' segment sum over the extended reals: what the accumulators hold after every grid point, as sums over the
  ids that name a row.
-/
module

public import proofs.«01_k».proof.Proof.PI.Region0
public import proofs.«01_k».proof.Proof.Segment
public import proofs.«01_k».proof.Proof.Rows
public import Idealize.ShloMosaic.Lib.Pointwise
public import Idealize.ShloMosaic.Lib.Pipeline.ValueKit.Acc

@[expose] public section

set_option maxRecDepth 16384

noncomputable section

namespace Cert.KernelIdeal.Value0

open Cert.KernelIdeal Cert.KernelIdeal.Gen Cert.KernelIdeal.Body0 Cert.KernelIdeal.Region0 Cert.Segment
open Idealize.ShloMosaic Idealize.ShloMosaic.TcCoe
open scoped BigOperators

/-! ## One window -/

/-- The window's table of ones: 1 where the id is the row's number. -/
theorem onehot (ids : IVec S1x2000 32) (a : BitVec 32) (ha : a.toNat < 4096) (r : Fin 8) (n : Fin 2000) :
    k0_pay6 (F := Ideal) ids a (ix2 r n) = hit (ids (ix2 0 n)) (a.toNat + r.val) := by
  unfold k0_pay6
  pointwise
  show ((((BitVec.ofBool (decide (ids (ix2 0 n) = a + BitVec.ofNat 32 r.val))).setWidth 32).toInt : ℝ) : EReal) = _
  rw [bit_value, hit]
  have hr := r.isLt
  have e : ids (ix2 0 n) = a + BitVec.ofNat 32 r.val ↔ (ids (ix2 0 n)).toNat = a.toNat + r.val := by
    rw [← BitVec.toNat_inj, BitVec.toNat_add, BitVec.toNat_ofNat]
    omega
  simp only [e]

/-- A window's rows after it: what they held plus the data of the ids that name them. -/
theorem pay7 (ids : IVec S1x2000 32) (D : Vec Ideal S2000x16 .f32) (a : BitVec 32) (ha : a.toNat < 4096) (W : Vec Ideal S8x16 .f32)
    (r : Fin 8) (k : Fin 16) :
    k0_pay7 (F := Ideal) ids D a W (ix2 r k) = W (ix2 r k) + ∑ n : Fin 2000, hit (ids (ix2 0 n)) (a.toNat + r.val) * D (ix2 n k) := by
  unfold k0_pay7
  pointwise
  exact congrArg (W (ix2 r k) + ·) (Finset.sum_congr rfl fun n _ => by rw [onehot ids a ha])

/-- The counts' rows after a window: what they held plus how many ids name them. -/
theorem pay8 (ids : IVec S1x2000 32) (a : BitVec 32) (ha : a.toNat < 4096) (W : Vec Ideal S8x8 .f32)
    (r : Fin 8) (k : Fin 8) :
    k0_pay8 (F := Ideal) ids a W (ix2 r k) = W (ix2 r k) + ∑ n : Fin 2000, hit (ids (ix2 0 n)) (a.toNat + r.val) := by
  unfold k0_pay8
  pointwise
  exact congrArg (W (ix2 r k) + ·) (Finset.sum_congr rfl fun n _ => by rw [onehot ids a ha])

/-- A window at an index of the sums. -/
theorem stepS_apply (ids : IVec S1x2000 32) (D : Vec Ideal S2000x16 .f32) (q : ℕ) (hq : 8 * q < 4096) (A : Vec Ideal S4104x16 .f32)
    (g : Fin 4104) (k : Fin 16) :
    stepS ids D (BitVec.ofNat 32 (8 * q)) A (ix2 g k)
      = A (ix2 g k) + if 8 * q ≤ g.val ∧ g.val < 8 * q + 8 then ∑ n : Fin 2000, hit (ids (ix2 0 n)) g.val * D (ix2 n k) else 0 := by
  have e : (BitVec.ofNat 32 (8 * q)).toNat = 8 * q := by rw [BitVec.toNat_ofNat]; omega
  rw [stepS, dif_pos (chk hq)]
  by_cases hg : 8 * q ≤ g.val ∧ g.val < 8 * q + 8
  · rw [if_pos hg]
    have hr : g.val = 8 * q + (⟨g.val - 8 * q, by omega⟩ : Fin 8).val := by
      show g.val = 8 * q + (g.val - 8 * q); omega
    refine (Cert.Rows.overlay_in (off := k0_off1 (BitVec.ofNat 32 (8 * q))) (8 * q) e rfl (k0_off1_inb _ (chk hq)) A _
      ⟨g.val - 8 * q, by omega⟩ g hr k).trans ?_
    rw [pay7 ids D _ (by omega)]
    have he := Cert.Rows.emb_row (off := k0_off1 (BitVec.ofNat 32 (8 * q))) (8 * q) e rfl (k0_off1_inb _ (chk hq))
      (⟨g.val - 8 * q, by omega⟩ : Fin 8) g hr k
    rw [e, ← hr]
    exact congrArg (· + _) (congrArg A he)
  · rw [if_neg hg, add_zero]
    exact Cert.Rows.overlay_out (off := k0_off1 (BitVec.ofNat 32 (8 * q))) (8 * q) e (k0_off1_inb _ (chk hq)) A _ g hg k

/-- A window at an index of the counts. -/
theorem stepC_apply (ids : IVec S1x2000 32) (q : ℕ) (hq : 8 * q < 4096) (B : Vec Ideal S4104x8 .f32) (g : Fin 4104) (k : Fin 8) :
    stepC ids (BitVec.ofNat 32 (8 * q)) B (ix2 g k)
      = B (ix2 g k) + if 8 * q ≤ g.val ∧ g.val < 8 * q + 8 then ∑ n : Fin 2000, hit (ids (ix2 0 n)) g.val else 0 := by
  have e : (BitVec.ofNat 32 (8 * q)).toNat = 8 * q := by rw [BitVec.toNat_ofNat]; omega
  rw [stepC, dif_pos (chk hq)]
  by_cases hg : 8 * q ≤ g.val ∧ g.val < 8 * q + 8
  · rw [if_pos hg]
    have hr : g.val = 8 * q + (⟨g.val - 8 * q, by omega⟩ : Fin 8).val := by
      show g.val = 8 * q + (g.val - 8 * q); omega
    refine (Cert.Rows.overlay_in (off := k0_off2 (BitVec.ofNat 32 (8 * q))) (8 * q) e rfl (k0_off2_inb _ (chk hq)) B _
      ⟨g.val - 8 * q, by omega⟩ g hr k).trans ?_
    rw [pay8 ids _ (by omega)]
    have he := Cert.Rows.emb_row (off := k0_off2 (BitVec.ofNat 32 (8 * q))) (8 * q) e rfl (k0_off2_inb _ (chk hq))
      (⟨g.val - 8 * q, by omega⟩ : Fin 8) g hr k
    rw [e, ← hr]
    exact congrArg (· + _) (congrArg B he)
  · rw [if_neg hg, add_zero]
    exact Cert.Rows.overlay_out (off := k0_off2 (BitVec.ofNat 32 (8 * q))) (8 * q) e (k0_off2_inb _ (chk hq)) B _ g hg k

/-! ## The windows of a block -/

/-- Two adjacent ranges of rows make one. -/
theorem split (x : EReal) (S : EReal) (g q n : ℕ) :
    (x + if 8 * q ≤ g ∧ g < 8 * q + 8 then S else 0) + (if 8 * (q + 1) ≤ g ∧ g < 8 * (q + 1) + 8 * n then S else 0)
      = x + if 8 * q ≤ g ∧ g < 8 * q + 8 * (n + 1) then S else 0 := by
  by_cases h1 : 8 * q ≤ g ∧ g < 8 * q + 8
  · rw [if_pos h1, if_neg (by omega), if_pos (by omega), add_zero]
  · rw [if_neg h1, add_zero]
    by_cases h2 : 8 * (q + 1) ≤ g ∧ g < 8 * (q + 1) + 8 * n
    · rw [if_pos h2, if_pos (by omega)]
    · rw [if_neg h2, if_neg (by omega)]

/-- The sums after `n` windows, at an index. -/
theorem iterS_apply (ids : IVec S1x2000 32) (D : Vec Ideal S2000x16 .f32) (g : Fin 4104) (k : Fin 16) :
    ∀ (n q : ℕ) (A : Vec Ideal S4104x16 .f32), (∀ i, i < n → 8 * (q + 1 * i) < 4096) →
      iterS ids D n q A (ix2 g k)
        = A (ix2 g k) + if 8 * q ≤ g.val ∧ g.val < 8 * q + 8 * n then ∑ n : Fin 2000, hit (ids (ix2 0 n)) g.val * D (ix2 n k) else 0 := by
  intro n
  induction n with
  | zero => intro q A _; rw [if_neg (by omega), add_zero]; rfl
  | succ n ih =>
    intro q A h
    have h0 := h 0 (by omega)
    show iterS ids D n (q + 1) (stepS ids D (BitVec.ofNat 32 (8 * q)) A) (ix2 g k) = _
    rw [ih (q + 1) _ (fun i hi => by have := h (i + 1) (by omega); omega), stepS_apply ids D q (by omega), split]

/-- The counts after `n` windows, at an index. -/
theorem iterC_apply (ids : IVec S1x2000 32) (g : Fin 4104) (k : Fin 8) :
    ∀ (n q : ℕ) (B : Vec Ideal S4104x8 .f32), (∀ i, i < n → 8 * (q + 1 * i) < 4096) →
      iterC ids n q B (ix2 g k)
        = B (ix2 g k) + if 8 * q ≤ g.val ∧ g.val < 8 * q + 8 * n then ∑ n : Fin 2000, hit (ids (ix2 0 n)) g.val else 0 := by
  intro n
  induction n with
  | zero => intro q B _; rw [if_neg (by omega), add_zero]; rfl
  | succ n ih =>
    intro q B h
    have h0 := h 0 (by omega)
    show iterC ids n (q + 1) (stepC ids (BitVec.ofNat 32 (8 * q)) B) (ix2 g k) = _
    rw [ih (q + 1) _ (fun i hi => by have := h (i + 1) (by omega); omega), stepC_apply ids q (by omega), split]

/-- The windows stay below row 4096. -/
theorem below (l h i : ℕ) (hh : h < 4096) (hi : i < (h / 8 + 1 - l / 8) / 1) : 8 * (l / 8 + 1 * i) < 4096 := by omega

/-- A row outside the windows is no id between the smallest and the largest. -/
theorem outside (l h g x : ℕ) (hg : ¬ (8 * (l / 8) ≤ g ∧ g < 8 * (l / 8) + 8 * ((h / 8 + 1 - l / 8) / 1))) (h1 : l ≤ x) (h2 : x ≤ h) :
    x ≠ g := by omega

variable (X : Vec Ideal S1x1x2000 .i32) (hX : ∀ i, (X i : BitVec 32).toNat < 4096)
include hX

/-- A grid point adds to a row of the sums the data of the block's ids that name it, -/
theorem outS_apply (z : Bool) (D : Vec Ideal S2000x16 .f32) (A : Vec Ideal S4104x16 .f32) (g : Fin 4104) (k : Fin 16) :
    outS z X D A (ix2 g k)
      = (if z then k0_pay1 (F := Ideal) else A) (ix2 g k) + ∑ n : Fin 2000, hit (k0_pay3 X (ix2 0 n)) g.val * D (ix2 n k) := by
  obtain ⟨-, hh, hb⟩ := lo_hi X hX
  rw [outS, iterS_apply (k0_pay3 X) D g k (trips X) (first X) _ (fun i hi => below _ _ i hh hi)]
  by_cases hg : 8 * first X ≤ g.val ∧ g.val < 8 * first X + 8 * trips X
  · rw [if_pos hg]
  · rw [if_neg hg]
    refine congrArg (_ + ·) (Eq.symm (sum_none (fun n : Fin 2000 => k0_pay3 X (ix2 0 n)) (fun n => D (ix2 n k)) g.val fun n => ?_))
    exact outside _ _ _ _ hg (hb (ix2 0 n)).1 (hb (ix2 0 n)).2

/-- and to a row of the counts how many of the block's ids name it. -/
theorem outC_apply (z : Bool) (B : Vec Ideal S4104x8 .f32) (g : Fin 4104) (k : Fin 8) :
    outC z X B (ix2 g k)
      = (if z then k0_pay2 (F := Ideal) else B) (ix2 g k) + ∑ n : Fin 2000, hit (k0_pay3 X (ix2 0 n)) g.val := by
  obtain ⟨-, hh, hb⟩ := lo_hi X hX
  rw [outC, iterC_apply (k0_pay3 X) g k (trips X) (first X) _ (fun i hi => below _ _ i hh hi)]
  by_cases hg : 8 * first X ≤ g.val ∧ g.val < 8 * first X + 8 * trips X
  · rw [if_pos hg]
  · rw [if_neg hg]
    refine congrArg (_ + ·) (Eq.symm (count_none (fun n : Fin 2000 => k0_pay3 X (ix2 0 n)) g.val fun n => ?_))
    exact outside _ _ _ _ hg (hb (ix2 0 n)).1 (hb (ix2 0 n)).2

omit hX

/-! ## The blocks -/

/-- The sums start at zero, -/
theorem pay1 (i : S4104x16.Idx) : k0_pay1 (F := Ideal) i = 0 := by unfold k0_pay1; pointwise
/-- and so do the counts. -/
theorem pay2 (i : S4104x8.Idx) : k0_pay2 (F := Ideal) i = 0 := by unfold k0_pay2; pointwise

/-- The block's ids as a row. -/
theorem pay3 (X : Vec Ideal S1x1x2000 .i32) (j : Fin 2000) : k0_pay3 X (ix2 0 j) = X (ix3 0 0 j) := by unfold k0_pay3; pointwise

variable (V : Region0.Vals Ideal) (c : Dev nD)

/-- The window over the ids is at the point's number. -/
theorem index0 (t : Fin grid0.N) : win0_0.index t (0 : Fin 3) = t.val := by
  have h := lt_of_lt_of_eq t.isLt N_0
  show (BitVec.ofNat 32 (grid0.coords t 0).val).toNat = t.val
  rw [Region0.coord, BitVec.toNat_ofNat]
  omega

/-- And so is the window over the data. -/
theorem index1 (t : Fin grid0.N) : win0_1.index t (0 : Fin 2) = t.val := by
  have h := lt_of_lt_of_eq t.isLt N_0
  show (BitVec.ofNat 32 (grid0.coords t 0).val).toNat = t.val
  rw [Region0.coord, BitVec.toNat_ofNat]
  omega

/-- The ids' block of a point is that row of the array of ids. -/
theorem ids_apply (t : Fin grid0.N) (s : Fin 800) (hs : s.val = t.val) (j : Fin 2000) :
    Region0.ids V c t (ix3 0 0 j) = V c main_v0 (ix3 s 0 j) := by
  show V c main_v0 ((win0_0.blk t).view.emb (ix3 0 0 j)) = _
  refine congrArg (V c main_v0) (funext fun a => Fin.ext ?_)
  refine (Pipeline.Window.rect_emb_val win0_0 t (ix3 0 0 j) a).trans ?_
  match a with
  | ⟨0, _⟩ =>
    show win0_0.index t (0 : Fin 3) * 1 + 0 = s.val
    rw [index0]; omega
  | ⟨1, _⟩ => rfl
  | ⟨2, _⟩ =>
    show 0 * 2000 + j.val = j.val
    omega

/-- The data's block of a point is that many rows of the data. -/
theorem data_apply (t : Fin grid0.N) (j : Fin 2000) (k : Fin 16) (n : Fin 1600000) (hn : n.val = t.val * 2000 + j.val) :
    Region0.data V c t (ix2 j k) = V c main_arg1 (ix2 n k) := by
  show V c main_arg1 ((win0_1.blk t).view.emb (ix2 j k)) = _
  refine congrArg (V c main_arg1) (funext fun a => Fin.ext ?_)
  refine (Pipeline.Window.rect_emb_val win0_1 t (ix2 j k) a).trans ?_
  match a with
  | ⟨0, _⟩ =>
    show win0_1.index t (0 : Fin 2) * 2000 + j.val = n.val
    rw [index1]; omega
  | ⟨1, _⟩ =>
    show 0 * 16 + k.val = k.val
    omega

/-- A reshaped array of ids at a point's place. -/
theorem reshaped (x : Vec Ideal S1600000 .i32) (s : Fin 800) (j : Fin 2000) (n : Fin 1600000) (hn : n.val = s.val * 2000 + j.val) :
    shapeCast S800x1x2000 x shapeCasts_S1600000_S800x1x2000 (ix3 s 0 j) = x (ix1 n) := by
  pointwise
  refine congrArg x (congrArg ix1 (Fin.ext ?_))
  rw [hn]

/-! ## The grid -/

variable (hV : ∀ t i, (Region0.ids V c t i : BitVec 32).toNat < 4096)
include hV

/-- The sums after the first points, at an index, -/
theorem accS_apply (g : Fin 4104) (k : Fin 16) : ∀ n : ℕ,
    Region0.accS V c n (ix2 g k) = ∑ t ∈ Finset.range (n + 1), ∑ j : Fin 2000,
      hit (Region0.ids V c (Region0.at' t) (ix3 0 0 j)) g.val * Region0.data V c (Region0.at' t) (ix2 j k)
  | 0 => by
    rw [Region0.accS, outS_apply _ (hV _), Finset.sum_range_one]
    show k0_pay1 (F := Ideal) (ix2 g k) + _ = _
    rw [pay1, zero_add]
    exact Finset.sum_congr rfl fun j _ => by rw [pay3]
  | n + 1 => by
    rw [Region0.accS, outS_apply _ (hV _), Finset.sum_range_succ _ (n + 1), ← accS_apply g k n]
    exact congrArg (Region0.accS V c n (ix2 g k) + ·) (Finset.sum_congr rfl fun j _ => by rw [pay3])

/-- and the counts. -/
theorem accC_apply (g : Fin 4104) (k : Fin 8) : ∀ n : ℕ,
    Region0.accC V c n (ix2 g k) = ∑ t ∈ Finset.range (n + 1), ∑ j : Fin 2000,
      hit (Region0.ids V c (Region0.at' t) (ix3 0 0 j)) g.val
  | 0 => by
    rw [Region0.accC, outC_apply _ (hV _), Finset.sum_range_one]
    show k0_pay2 (F := Ideal) (ix2 g k) + _ = _
    rw [pay2, zero_add]
    exact Finset.sum_congr rfl fun j _ => by rw [pay3]
  | n + 1 => by
    rw [Region0.accC, outC_apply _ (hV _), Finset.sum_range_succ _ (n + 1), ← accC_apply g k n]
    exact congrArg (Region0.accC V c n (ix2 g k) + ·) (Finset.sum_congr rfl fun j _ => by rw [pay3])

variable (x : Vec Ideal S1600000 .i32) (hx : V c main_v0 = shapeCast S800x1x2000 x shapeCasts_S1600000_S800x1x2000)
include hx

/-- At the region's end a row of the sums holds the data of all ids that name it, -/
theorem sums (g : Fin 4104) (k : Fin 16) :
    Region0.accS V c 799 (ix2 g k) = ∑ n : Fin 1600000, hit (x (ix1 n)) g.val * (V c main_arg1 : Vec Ideal S1600000x16 .f32) (ix2 n k) := by
  rw [accS_apply V c hV, Finset.sum_range]
  refine Fin.sum_mul_add_congr (S := 800) (n := 2000) (fun s j hl => ?_) rfl
  have hs : s.val = (Region0.at' s.val).val := (Nat.mod_eq_of_lt s.isLt).symm
  rw [ids_apply V c _ s hs, data_apply V c _ j k ⟨_, hl⟩ (by rw [← hs]), hx, reshaped x s j ⟨_, hl⟩ rfl]

/-- and a row of the counts how many ids name it. -/
theorem counts (g : Fin 4104) (k : Fin 8) :
    Region0.accC V c 799 (ix2 g k) = ∑ n : Fin 1600000, hit (x (ix1 n)) g.val := by
  rw [accC_apply V c hV, Finset.sum_range]
  refine Fin.sum_mul_add_congr (S := 800) (n := 2000) (fun s j hl => ?_) rfl
  have hs : s.val = (Region0.at' s.val).val := (Nat.mod_eq_of_lt s.isLt).symm
  rw [ids_apply V c _ s hs, hx, reshaped x s j ⟨_, hl⟩ rfl]

end Cert.KernelIdeal.Value0

end
-- ==== Proof.PI.Value1.lean ====
/-
  The sites' segment sum over the extended reals: what the accumulators hold after every grid point, as sums over the
  ids that name a row.
-/
module

public import proofs.«01_k».proof.Proof.PI.Region1
public import proofs.«01_k».proof.Proof.Segment
public import proofs.«01_k».proof.Proof.Rows
public import Idealize.ShloMosaic.Lib.Pointwise
public import Idealize.ShloMosaic.Lib.Pipeline.ValueKit.Acc

@[expose] public section

set_option maxRecDepth 16384

noncomputable section

namespace Cert.KernelIdeal.Value1

open Cert.KernelIdeal Cert.KernelIdeal.Gen Cert.KernelIdeal.Body1 Cert.KernelIdeal.Region1 Cert.Segment
open Idealize.ShloMosaic Idealize.ShloMosaic.TcCoe
open scoped BigOperators

/-! ## One window -/

/-- The window's table of ones: 1 where the id is the row's number. -/
theorem onehot (ids : IVec S1x400 32) (a : BitVec 32) (ha : a.toNat < 4096) (r : Fin 32) (n : Fin 400) :
    k1_pay6 (F := Ideal) ids a (ix2 r n) = hit (ids (ix2 0 n)) (a.toNat + r.val) := by
  unfold k1_pay6
  pointwise
  show ((((BitVec.ofBool (decide (ids (ix2 0 n) = a + BitVec.ofNat 32 r.val))).setWidth 32).toInt : ℝ) : EReal) = _
  rw [bit_value, hit]
  have hr := r.isLt
  have e : ids (ix2 0 n) = a + BitVec.ofNat 32 r.val ↔ (ids (ix2 0 n)).toNat = a.toNat + r.val := by
    rw [← BitVec.toNat_inj, BitVec.toNat_add, BitVec.toNat_ofNat]
    omega
  simp only [e]

/-- A window's rows after it: what they held plus the data of the ids that name them. -/
theorem pay7 (ids : IVec S1x400 32) (D : Vec Ideal S400x128 .f32) (a : BitVec 32) (ha : a.toNat < 4096) (W : Vec Ideal S32x128 .f32)
    (r : Fin 32) (k : Fin 128) :
    k1_pay7 (F := Ideal) ids D a W (ix2 r k) = W (ix2 r k) + ∑ n : Fin 400, hit (ids (ix2 0 n)) (a.toNat + r.val) * D (ix2 n k) := by
  unfold k1_pay7
  pointwise
  exact congrArg (W (ix2 r k) + ·) (Finset.sum_congr rfl fun n _ => by rw [onehot ids a ha])

/-- The counts' rows after a window: what they held plus how many ids name them. -/
theorem pay8 (ids : IVec S1x400 32) (a : BitVec 32) (ha : a.toNat < 4096) (W : Vec Ideal S32x8 .f32)
    (r : Fin 32) (k : Fin 8) :
    k1_pay8 (F := Ideal) ids a W (ix2 r k) = W (ix2 r k) + ∑ n : Fin 400, hit (ids (ix2 0 n)) (a.toNat + r.val) := by
  unfold k1_pay8
  pointwise
  exact congrArg (W (ix2 r k) + ·) (Finset.sum_congr rfl fun n _ => by rw [onehot ids a ha])

/-- A window at an index of the sums. -/
theorem stepS_apply (ids : IVec S1x400 32) (D : Vec Ideal S400x128 .f32) (q : ℕ) (hq : 8 * q < 4096) (A : Vec Ideal S4128x128 .f32)
    (g : Fin 4128) (k : Fin 128) :
    stepS ids D (BitVec.ofNat 32 (8 * q)) A (ix2 g k)
      = A (ix2 g k) + if 8 * q ≤ g.val ∧ g.val < 8 * q + 32 then ∑ n : Fin 400, hit (ids (ix2 0 n)) g.val * D (ix2 n k) else 0 := by
  have e : (BitVec.ofNat 32 (8 * q)).toNat = 8 * q := by rw [BitVec.toNat_ofNat]; omega
  rw [stepS, dif_pos (chk hq)]
  by_cases hg : 8 * q ≤ g.val ∧ g.val < 8 * q + 32
  · rw [if_pos hg]
    have hr : g.val = 8 * q + (⟨g.val - 8 * q, by omega⟩ : Fin 32).val := by
      show g.val = 8 * q + (g.val - 8 * q); omega
    refine (Cert.Rows.overlay_in (off := k1_off1 (BitVec.ofNat 32 (8 * q))) (8 * q) e rfl (k1_off1_inb _ (chk hq)) A _
      ⟨g.val - 8 * q, by omega⟩ g hr k).trans ?_
    rw [pay7 ids D _ (by omega)]
    have he := Cert.Rows.emb_row (off := k1_off1 (BitVec.ofNat 32 (8 * q))) (8 * q) e rfl (k1_off1_inb _ (chk hq))
      (⟨g.val - 8 * q, by omega⟩ : Fin 32) g hr k
    rw [e, ← hr]
    exact congrArg (· + _) (congrArg A he)
  · rw [if_neg hg, add_zero]
    exact Cert.Rows.overlay_out (off := k1_off1 (BitVec.ofNat 32 (8 * q))) (8 * q) e (k1_off1_inb _ (chk hq)) A _ g hg k

/-- A window at an index of the counts. -/
theorem stepC_apply (ids : IVec S1x400 32) (q : ℕ) (hq : 8 * q < 4096) (B : Vec Ideal S4128x8 .f32) (g : Fin 4128) (k : Fin 8) :
    stepC ids (BitVec.ofNat 32 (8 * q)) B (ix2 g k)
      = B (ix2 g k) + if 8 * q ≤ g.val ∧ g.val < 8 * q + 32 then ∑ n : Fin 400, hit (ids (ix2 0 n)) g.val else 0 := by
  have e : (BitVec.ofNat 32 (8 * q)).toNat = 8 * q := by rw [BitVec.toNat_ofNat]; omega
  rw [stepC, dif_pos (chk hq)]
  by_cases hg : 8 * q ≤ g.val ∧ g.val < 8 * q + 32
  · rw [if_pos hg]
    have hr : g.val = 8 * q + (⟨g.val - 8 * q, by omega⟩ : Fin 32).val := by
      show g.val = 8 * q + (g.val - 8 * q); omega
    refine (Cert.Rows.overlay_in (off := k1_off2 (BitVec.ofNat 32 (8 * q))) (8 * q) e rfl (k1_off2_inb _ (chk hq)) B _
      ⟨g.val - 8 * q, by omega⟩ g hr k).trans ?_
    rw [pay8 ids _ (by omega)]
    have he := Cert.Rows.emb_row (off := k1_off2 (BitVec.ofNat 32 (8 * q))) (8 * q) e rfl (k1_off2_inb _ (chk hq))
      (⟨g.val - 8 * q, by omega⟩ : Fin 32) g hr k
    rw [e, ← hr]
    exact congrArg (· + _) (congrArg B he)
  · rw [if_neg hg, add_zero]
    exact Cert.Rows.overlay_out (off := k1_off2 (BitVec.ofNat 32 (8 * q))) (8 * q) e (k1_off2_inb _ (chk hq)) B _ g hg k

/-! ## The windows of a block -/

/-- Two adjacent ranges of rows make one. -/
theorem split (x : EReal) (S : EReal) (g q n : ℕ) :
    (x + if 8 * q ≤ g ∧ g < 8 * q + 32 then S else 0) + (if 8 * (q + 4) ≤ g ∧ g < 8 * (q + 4) + 32 * n then S else 0)
      = x + if 8 * q ≤ g ∧ g < 8 * q + 32 * (n + 1) then S else 0 := by
  by_cases h1 : 8 * q ≤ g ∧ g < 8 * q + 32
  · rw [if_pos h1, if_neg (by omega), if_pos (by omega), add_zero]
  · rw [if_neg h1, add_zero]
    by_cases h2 : 8 * (q + 4) ≤ g ∧ g < 8 * (q + 4) + 32 * n
    · rw [if_pos h2, if_pos (by omega)]
    · rw [if_neg h2, if_neg (by omega)]

/-- The sums after `n` windows, at an index. -/
theorem iterS_apply (ids : IVec S1x400 32) (D : Vec Ideal S400x128 .f32) (g : Fin 4128) (k : Fin 128) :
    ∀ (n q : ℕ) (A : Vec Ideal S4128x128 .f32), (∀ i, i < n → 8 * (q + 4 * i) < 4096) →
      iterS ids D n q A (ix2 g k)
        = A (ix2 g k) + if 8 * q ≤ g.val ∧ g.val < 8 * q + 32 * n then ∑ n : Fin 400, hit (ids (ix2 0 n)) g.val * D (ix2 n k) else 0 := by
  intro n
  induction n with
  | zero => intro q A _; rw [if_neg (by omega), add_zero]; rfl
  | succ n ih =>
    intro q A h
    have h0 := h 0 (by omega)
    show iterS ids D n (q + 4) (stepS ids D (BitVec.ofNat 32 (8 * q)) A) (ix2 g k) = _
    rw [ih (q + 4) _ (fun i hi => by have := h (i + 1) (by omega); omega), stepS_apply ids D q (by omega), split]

/-- The counts after `n` windows, at an index. -/
theorem iterC_apply (ids : IVec S1x400 32) (g : Fin 4128) (k : Fin 8) :
    ∀ (n q : ℕ) (B : Vec Ideal S4128x8 .f32), (∀ i, i < n → 8 * (q + 4 * i) < 4096) →
      iterC ids n q B (ix2 g k)
        = B (ix2 g k) + if 8 * q ≤ g.val ∧ g.val < 8 * q + 32 * n then ∑ n : Fin 400, hit (ids (ix2 0 n)) g.val else 0 := by
  intro n
  induction n with
  | zero => intro q B _; rw [if_neg (by omega), add_zero]; rfl
  | succ n ih =>
    intro q B h
    have h0 := h 0 (by omega)
    show iterC ids n (q + 4) (stepC ids (BitVec.ofNat 32 (8 * q)) B) (ix2 g k) = _
    rw [ih (q + 4) _ (fun i hi => by have := h (i + 1) (by omega); omega), stepC_apply ids q (by omega), split]

/-- The windows stay below row 4096. -/
theorem below (l h i : ℕ) (hh : h < 4096) (hi : i < (h / 8 + 4 - l / 8) / 4) : 8 * (l / 8 + 4 * i) < 4096 := by omega

/-- A row outside the windows is no id between the smallest and the largest. -/
theorem outside (l h g x : ℕ) (hg : ¬ (8 * (l / 8) ≤ g ∧ g < 8 * (l / 8) + 32 * ((h / 8 + 4 - l / 8) / 4))) (h1 : l ≤ x) (h2 : x ≤ h) :
    x ≠ g := by omega

variable (X : Vec Ideal S1x1x400 .i32) (hX : ∀ i, (X i : BitVec 32).toNat < 4096)
include hX

/-- A grid point adds to a row of the sums the data of the block's ids that name it, -/
theorem outS_apply (z : Bool) (D : Vec Ideal S400x128 .f32) (A : Vec Ideal S4128x128 .f32) (g : Fin 4128) (k : Fin 128) :
    outS z X D A (ix2 g k)
      = (if z then k1_pay1 (F := Ideal) else A) (ix2 g k) + ∑ n : Fin 400, hit (k1_pay3 X (ix2 0 n)) g.val * D (ix2 n k) := by
  obtain ⟨-, hh, hb⟩ := lo_hi X hX
  rw [outS, iterS_apply (k1_pay3 X) D g k (trips X) (first X) _ (fun i hi => below _ _ i hh hi)]
  by_cases hg : 8 * first X ≤ g.val ∧ g.val < 8 * first X + 32 * trips X
  · rw [if_pos hg]
  · rw [if_neg hg]
    refine congrArg (_ + ·) (Eq.symm (sum_none (fun n : Fin 400 => k1_pay3 X (ix2 0 n)) (fun n => D (ix2 n k)) g.val fun n => ?_))
    exact outside _ _ _ _ hg (hb (ix2 0 n)).1 (hb (ix2 0 n)).2

/-- and to a row of the counts how many of the block's ids name it. -/
theorem outC_apply (z : Bool) (B : Vec Ideal S4128x8 .f32) (g : Fin 4128) (k : Fin 8) :
    outC z X B (ix2 g k)
      = (if z then k1_pay2 (F := Ideal) else B) (ix2 g k) + ∑ n : Fin 400, hit (k1_pay3 X (ix2 0 n)) g.val := by
  obtain ⟨-, hh, hb⟩ := lo_hi X hX
  rw [outC, iterC_apply (k1_pay3 X) g k (trips X) (first X) _ (fun i hi => below _ _ i hh hi)]
  by_cases hg : 8 * first X ≤ g.val ∧ g.val < 8 * first X + 32 * trips X
  · rw [if_pos hg]
  · rw [if_neg hg]
    refine congrArg (_ + ·) (Eq.symm (count_none (fun n : Fin 400 => k1_pay3 X (ix2 0 n)) g.val fun n => ?_))
    exact outside _ _ _ _ hg (hb (ix2 0 n)).1 (hb (ix2 0 n)).2

omit hX

/-! ## The blocks -/

/-- The sums start at zero, -/
theorem pay1 (i : S4128x128.Idx) : k1_pay1 (F := Ideal) i = 0 := by unfold k1_pay1; pointwise
/-- and so do the counts. -/
theorem pay2 (i : S4128x8.Idx) : k1_pay2 (F := Ideal) i = 0 := by unfold k1_pay2; pointwise

/-- The block's ids as a row. -/
theorem pay3 (X : Vec Ideal S1x1x400 .i32) (j : Fin 400) : k1_pay3 X (ix2 0 j) = X (ix3 0 0 j) := by unfold k1_pay3; pointwise

variable (V : Region1.Vals Ideal) (c : Dev nD)

/-- The window over the ids is at the point's number. -/
theorem index0 (t : Fin grid1.N) : win1_0.index t (0 : Fin 3) = t.val := by
  have h := lt_of_lt_of_eq t.isLt N_1
  show (BitVec.ofNat 32 (grid1.coords t 0).val).toNat = t.val
  rw [Region1.coord, BitVec.toNat_ofNat]
  omega

/-- And so is the window over the data. -/
theorem index1 (t : Fin grid1.N) : win1_1.index t (0 : Fin 2) = t.val := by
  have h := lt_of_lt_of_eq t.isLt N_1
  show (BitVec.ofNat 32 (grid1.coords t 0).val).toNat = t.val
  rw [Region1.coord, BitVec.toNat_ofNat]
  omega

/-- The ids' block of a point is that row of the array of ids. -/
theorem ids_apply (t : Fin grid1.N) (s : Fin 125) (hs : s.val = t.val) (j : Fin 400) :
    Region1.ids V c t (ix3 0 0 j) = V c main_v4 (ix3 s 0 j) := by
  show V c main_v4 ((win1_0.blk t).view.emb (ix3 0 0 j)) = _
  refine congrArg (V c main_v4) (funext fun a => Fin.ext ?_)
  refine (Pipeline.Window.rect_emb_val win1_0 t (ix3 0 0 j) a).trans ?_
  match a with
  | ⟨0, _⟩ =>
    show win1_0.index t (0 : Fin 3) * 1 + 0 = s.val
    rw [index0]; omega
  | ⟨1, _⟩ => rfl
  | ⟨2, _⟩ =>
    show 0 * 400 + j.val = j.val
    omega

/-- The data's block of a point is that many rows of the data. -/
theorem data_apply (t : Fin grid1.N) (j : Fin 400) (k : Fin 128) (n : Fin 50000) (hn : n.val = t.val * 400 + j.val) :
    Region1.data V c t (ix2 j k) = V c main_arg0 (ix2 n k) := by
  show V c main_arg0 ((win1_1.blk t).view.emb (ix2 j k)) = _
  refine congrArg (V c main_arg0) (funext fun a => Fin.ext ?_)
  refine (Pipeline.Window.rect_emb_val win1_1 t (ix2 j k) a).trans ?_
  match a with
  | ⟨0, _⟩ =>
    show win1_1.index t (0 : Fin 2) * 400 + j.val = n.val
    rw [index1]; omega
  | ⟨1, _⟩ =>
    show 0 * 128 + k.val = k.val
    omega

/-- A reshaped array of ids at a point's place. -/
theorem reshaped (x : Vec Ideal S50000 .i32) (s : Fin 125) (j : Fin 400) (n : Fin 50000) (hn : n.val = s.val * 400 + j.val) :
    shapeCast S125x1x400 x shapeCasts_S50000_S125x1x400 (ix3 s 0 j) = x (ix1 n) := by
  pointwise
  refine congrArg x (congrArg ix1 (Fin.ext ?_))
  rw [hn]

/-! ## The grid -/

variable (hV : ∀ t i, (Region1.ids V c t i : BitVec 32).toNat < 4096)
include hV

/-- The sums after the first points, at an index, -/
theorem accS_apply (g : Fin 4128) (k : Fin 128) : ∀ n : ℕ,
    Region1.accS V c n (ix2 g k) = ∑ t ∈ Finset.range (n + 1), ∑ j : Fin 400,
      hit (Region1.ids V c (Region1.at' t) (ix3 0 0 j)) g.val * Region1.data V c (Region1.at' t) (ix2 j k)
  | 0 => by
    rw [Region1.accS, outS_apply _ (hV _), Finset.sum_range_one]
    show k1_pay1 (F := Ideal) (ix2 g k) + _ = _
    rw [pay1, zero_add]
    exact Finset.sum_congr rfl fun j _ => by rw [pay3]
  | n + 1 => by
    rw [Region1.accS, outS_apply _ (hV _), Finset.sum_range_succ _ (n + 1), ← accS_apply g k n]
    exact congrArg (Region1.accS V c n (ix2 g k) + ·) (Finset.sum_congr rfl fun j _ => by rw [pay3])

/-- and the counts. -/
theorem accC_apply (g : Fin 4128) (k : Fin 8) : ∀ n : ℕ,
    Region1.accC V c n (ix2 g k) = ∑ t ∈ Finset.range (n + 1), ∑ j : Fin 400,
      hit (Region1.ids V c (Region1.at' t) (ix3 0 0 j)) g.val
  | 0 => by
    rw [Region1.accC, outC_apply _ (hV _), Finset.sum_range_one]
    show k1_pay2 (F := Ideal) (ix2 g k) + _ = _
    rw [pay2, zero_add]
    exact Finset.sum_congr rfl fun j _ => by rw [pay3]
  | n + 1 => by
    rw [Region1.accC, outC_apply _ (hV _), Finset.sum_range_succ _ (n + 1), ← accC_apply g k n]
    exact congrArg (Region1.accC V c n (ix2 g k) + ·) (Finset.sum_congr rfl fun j _ => by rw [pay3])

variable (x : Vec Ideal S50000 .i32) (hx : V c main_v4 = shapeCast S125x1x400 x shapeCasts_S50000_S125x1x400)
include hx

/-- At the region's end a row of the sums holds the data of all ids that name it, -/
theorem sums (g : Fin 4128) (k : Fin 128) :
    Region1.accS V c 124 (ix2 g k) = ∑ n : Fin 50000, hit (x (ix1 n)) g.val * (V c main_arg0 : Vec Ideal S50000x128 .f32) (ix2 n k) := by
  rw [accS_apply V c hV, Finset.sum_range]
  refine Fin.sum_mul_add_congr (S := 125) (n := 400) (fun s j hl => ?_) rfl
  have hs : s.val = (Region1.at' s.val).val := (Nat.mod_eq_of_lt s.isLt).symm
  rw [ids_apply V c _ s hs, data_apply V c _ j k ⟨_, hl⟩ (by rw [← hs]), hx, reshaped x s j ⟨_, hl⟩ rfl]

/-- and a row of the counts how many ids name it. -/
theorem counts (g : Fin 4128) (k : Fin 8) :
    Region1.accC V c 124 (ix2 g k) = ∑ n : Fin 50000, hit (x (ix1 n)) g.val := by
  rw [accC_apply V c hV, Finset.sum_range]
  refine Fin.sum_mul_add_congr (S := 125) (n := 400) (fun s j hl => ?_) rfl
  have hs : s.val = (Region1.at' s.val).val := (Nat.mod_eq_of_lt s.isLt).symm
  rw [ids_apply V c _ s hs, hx, reshaped x s j ⟨_, hl⟩ rfl]

end Cert.KernelIdeal.Value1

end
-- ==== Proof.PI.Layers.lean ====
/-
  The kernel's perceptron over the extended reals, at an index: the two payloads of its body.
-/
module

public import proofs.«01_k».proof.Proof.PI.Body2
public import proofs.«01_k».proof.Proof.Spec
public import Idealize.ShloMosaic.Lib.Pointwise

@[expose] public section

set_option maxRecDepth 16384

noncomputable section

namespace Cert.KernelIdeal.Layers

open Cert.KernelIdeal Cert.KernelIdeal.Gen Cert.Segment Cert.Spec
open Idealize.ShloMosaic Idealize.ShloMosaic.TcCoe
open scoped BigOperators

/-- The first layer's output, from the sums, the counts, the states and the three blocks of weights. -/
theorem pay2_apply (X0 : Vec Ideal S4096x16 .f32) (X1 : Vec Ideal S4096x1 .f32) (X2 : Vec Ideal S4096x128 .f32) (X3 : Vec Ideal S4096x1 .f32)
    (X4 : Vec Ideal S4096x128 .f32) (X5 : Vec Ideal S16x256 .f32) (X6 X7 : Vec Ideal S128x256 .f32) (X8 : Vec Ideal S1x256 .f32)
    (g : Fin 4096) (j : Fin 256) :
    k2_pay2 (F := Ideal) X0 X1 X2 X3 X5 X6 X4 X7 X8 (ix2 g j)
      = max ((((∑ k : Fin 16, Ideal.div (X0 (ix2 g k)) (max (X1 (ix2 g 0)) 1) * X5 (ix2 k j))
          + ∑ k : Fin 128, Ideal.div (X2 (ix2 g k)) (max (X3 (ix2 g 0)) 1) * X6 (ix2 k j))
          + ∑ k : Fin 128, X4 (ix2 g k) * X7 (ix2 k j)) + X8 (ix2 0 j)) 0 := by
  unfold k2_pay2
  pointwise

/-- The other two layers' output, from the first's. -/
theorem pay1_apply (H : Vec Ideal S4096x256 .f32) (X9 : Vec Ideal S256x128 .f32) (X10 : Vec Ideal S1x128 .f32) (X11 : Vec Ideal S128x128 .f32)
    (X12 : Vec Ideal S1x128 .f32) (g : Fin 4096) (j : Fin 128) :
    k2_pay1 (F := Ideal) H X9 X10 X11 X12 (ix2 g j)
      = layer (fun k : Fin 128 => layer (fun k' : Fin 256 => H (ix2 g k')) (fun k' => X9 (ix2 k' k)) (X10 (ix2 0 k)))
          (fun k => X11 (ix2 k j)) (X12 (ix2 0 j)) := by
  unfold k2_pay1
  pointwise
  rfl

end Cert.KernelIdeal.Layers

end
-- ==== Proof.PI.Result.lean ====
/-
  What the kernel's result is over the extended reals, at an index, in the terms that the reference's is: three layers of
  a perceptron over means by segment.
-/
module

public import proofs.«01_k».proof.Proof.PI.Segs
public import proofs.«01_k».proof.Proof.PI.Value0
public import proofs.«01_k».proof.Proof.PI.Value1
public import proofs.«01_k».proof.Proof.PI.Layers
public import Idealize.ShloMosaic.Lib.Pointwise

@[expose] public section

set_option maxRecDepth 16384

noncomputable section

namespace Cert.KernelIdeal.Result

open Cert.KernelIdeal Cert.KernelIdeal.Gen Cert.KernelIdeal.Segs Cert.KernelIdeal.Layers Cert.Segment Cert.Spec
open Idealize.ShloMosaic Idealize.ShloMosaic.TcCoe
open scoped BigOperators

variable (m : (ℓ : Loc nD τ sig) → Buf (Elt Ideal) ℓ) (c : Dev nD)

/-! ## The arguments -/

/-- The eleven arguments, in the order of the entry's parameters. -/
abbrev a0 : Vec Ideal S50000x128 .f32 := m ((c : Thread nD τ).loc main_arg0)
abbrev a1 : Vec Ideal S1600000x16 .f32 := m ((c : Thread nD τ).loc main_arg1)
abbrev a2 : Vec Ideal S4096x128 .f32 := m ((c : Thread nD τ).loc main_arg2)
abbrev a3 : Vec Ideal S50000 .i32 := m ((c : Thread nD τ).loc main_arg3)
abbrev a4 : Vec Ideal S1600000 .i32 := m ((c : Thread nD τ).loc main_arg4)
abbrev a5 : Vec Ideal S256x272 .f32 := m ((c : Thread nD τ).loc main_arg5)
abbrev a6 : Vec Ideal S256 .f32 := m ((c : Thread nD τ).loc main_arg6)
abbrev a7 : Vec Ideal S128x256 .f32 := m ((c : Thread nD τ).loc main_arg7)
abbrev a8 : Vec Ideal S128 .f32 := m ((c : Thread nD τ).loc main_arg8)
abbrev a9 : Vec Ideal S128x128 .f32 := m ((c : Thread nD τ).loc main_arg9)
abbrev a10 : Vec Ideal S128 .f32 := m ((c : Thread nD τ).loc main_arg10)

/-! ## What the regions are entered with -/

/-- The bonds' region is entered with the bonds as given, -/
theorem in0_bonds : in0 m c main_arg1 = a1 m c := by
  unfold in0 V1; rfl
/-- and the sites' with the sites as given. -/
theorem in1_sites : in1 m c main_arg0 = a0 m c := by
  unfold in1 V3; rfl

/-- The bonds' sums without the rows past the last segment, -/
theorem x0_eq : Region2.x0 (in2 m) c
    = extractStridedSlice S4096x16 ![0, 0] (Region0.accS (in0 m) c 799) slices_S4104x16_S4096x16_0_0 := by
  rw [← left0_sums]
  unfold Region2.x0 in2 V5; rfl
/-- and the first column of their counts; -/
theorem x1_eq : Region2.x1 (in2 m) c
    = extractStridedSlice S4096x1 ![0, 0] (Region0.accC (in0 m) c 799) slices_S4104x8_S4096x1_0_0 := by
  rw [← left0_counts]
  unfold Region2.x1 in2 V5; rfl
/-- the sites' likewise. -/
theorem x2_eq : Region2.x2 (in2 m) c
    = extractStridedSlice S4096x128 ![0, 0] (Region1.accS (in1 m) c 124) slices_S4128x128_S4096x128_0_0 := by
  rw [← left1_sums]
  unfold Region2.x2 in2 V5; rfl
/-- and the first column of their counts. -/
theorem x3_eq : Region2.x3 (in2 m) c
    = extractStridedSlice S4096x1 ![0, 0] (Region1.accC (in1 m) c 124) slices_S4128x8_S4096x1_0_0 := by
  rw [← left1_counts]
  unfold Region2.x3 in2 V5; rfl
/-- The states are an argument. -/
theorem x4_eq : Region2.x4 (in2 m) c = a2 m c := by
  unfold Region2.x4 in2 V5; rfl
/-- The first layer's weights, transposed, are cut into three parts: the rows 0 .. 15 for the bonds, -/
theorem x5_eq : Region2.x5 (in2 m) c
    = extractStridedSlice S16x256 ![0, 0] (transpose S272x256 [1, 0] (a5 m c) transposes_S256x272_S272x256_1_0) slices_S272x256_S16x256_0_0 := by
  unfold Region2.x5 in2 V5; rfl
/-- the rows 16 .. 143 for the sites -/
theorem x6_eq : Region2.x6 (in2 m) c
    = extractStridedSlice S128x256 ![16, 0] (transpose S272x256 [1, 0] (a5 m c) transposes_S256x272_S272x256_1_0) slices_S272x256_S128x256_16_0 := by
  unfold Region2.x6 in2 V5; rfl
/-- and 144 .. 271 for the states. -/
theorem x7_eq : Region2.x7 (in2 m) c
    = extractStridedSlice S128x256 ![144, 0] (transpose S272x256 [1, 0] (a5 m c) transposes_S256x272_S272x256_1_0) slices_S272x256_S128x256_144_0 := by
  unfold Region2.x7 in2 V5; rfl
/-- The first layer's bias is laid out as one row; -/
theorem x8_eq : Region2.x8 (in2 m) c = shapeCast S1x256 (a6 m c) shapeCasts_S256_S1x256 := by
  unfold Region2.x8 in2 V5; rfl
/-- the second layer's weights are transposed -/
theorem x9_eq : Region2.x9 (in2 m) c = transpose S256x128 [1, 0] (a7 m c) transposes_S128x256_S256x128_1_0 := by
  unfold Region2.x9 in2 V5; rfl
/-- and its bias one row; -/
theorem x10_eq : Region2.x10 (in2 m) c = shapeCast S1x128 (a8 m c) shapeCasts_S128_S1x128 := by
  unfold Region2.x10 in2 V5; rfl
/-- and so are the third layer's weights -/
theorem x11_eq : Region2.x11 (in2 m) c = transpose S128x128 [1, 0] (a9 m c) transposes_S128x128_S128x128_1_0 := by
  unfold Region2.x11 in2 V5; rfl
/-- and bias. -/
theorem x12_eq : Region2.x12 (in2 m) c = shapeCast S1x128 (a10 m c) shapeCasts_S128_S1x128 := by
  unfold Region2.x12 in2 V5; rfl

/-! ## The host's cuts and transpositions, at an index -/

/-- The rows kept of the bonds' sums, -/
theorem rows16 (A : FVec Ideal S4104x16 .f32) (g : Fin 4096) (k : Fin 16) :
    extractStridedSlice S4096x16 ![0, 0] A slices_S4104x16_S4096x16_0_0 (ix2 g k) = A (ix2 (⟨g.val, by omega⟩ : Fin 4104) k) := by pointwise
/-- the column kept of their counts, -/
theorem column0 (A : FVec Ideal S4104x8 .f32) (g : Fin 4096) :
    extractStridedSlice S4096x1 ![0, 0] A slices_S4104x8_S4096x1_0_0 (ix2 g 0) = A (ix2 (⟨g.val, by omega⟩ : Fin 4104) 0) := by pointwise
/-- the rows kept of the sites' sums, -/
theorem rows128 (A : FVec Ideal S4128x128 .f32) (g : Fin 4096) (k : Fin 128) :
    extractStridedSlice S4096x128 ![0, 0] A slices_S4128x128_S4096x128_0_0 (ix2 g k) = A (ix2 (⟨g.val, by omega⟩ : Fin 4128) k) := by pointwise
/-- and the column kept of their counts. -/
theorem column1 (A : FVec Ideal S4128x8 .f32) (g : Fin 4096) :
    extractStridedSlice S4096x1 ![0, 0] A slices_S4128x8_S4096x1_0_0 (ix2 g 0) = A (ix2 (⟨g.val, by omega⟩ : Fin 4128) 0) := by pointwise

/-- The first layer's weights for the bonds, -/
theorem w5 (k : Fin 16) (j : Fin 256) : Region2.x5 (in2 m) c (ix2 k j) = a5 m c (ix2 j (⟨k.val, by omega⟩ : Fin 272)) := by
  rw [x5_eq]; generalize a5 m c = A; pointwise
/-- for the sites -/
theorem w6 (k : Fin 128) (j : Fin 256) : Region2.x6 (in2 m) c (ix2 k j) = a5 m c (ix2 j (⟨16 + k.val, by omega⟩ : Fin 272)) := by
  rw [x6_eq]; generalize a5 m c = A; pointwise
/-- and for the states; -/
theorem w7 (k : Fin 128) (j : Fin 256) : Region2.x7 (in2 m) c (ix2 k j) = a5 m c (ix2 j (⟨144 + k.val, by omega⟩ : Fin 272)) := by
  rw [x7_eq]; generalize a5 m c = A; pointwise
/-- its bias; -/
theorem w8 (j : Fin 256) : Region2.x8 (in2 m) c (ix2 0 j) = a6 m c (ix1 j) := by
  rw [x8_eq]; generalize a6 m c = A; pointwise
/-- the second layer's weights -/
theorem w9 (k : Fin 256) (j : Fin 128) : Region2.x9 (in2 m) c (ix2 k j) = a7 m c (ix2 j k) := by
  rw [x9_eq]; generalize a7 m c = A; pointwise
/-- and bias; -/
theorem w10 (j : Fin 128) : Region2.x10 (in2 m) c (ix2 0 j) = a8 m c (ix1 j) := by
  rw [x10_eq]; generalize a8 m c = A; pointwise
/-- the third layer's weights -/
theorem w11 (k j : Fin 128) : Region2.x11 (in2 m) c (ix2 k j) = a9 m c (ix2 j k) := by
  rw [x11_eq]; generalize a9 m c = A; pointwise
/-- and bias. -/
theorem w12 (j : Fin 128) : Region2.x12 (in2 m) c (ix2 0 j) = a10 m c (ix1 j) := by
  rw [x12_eq]; generalize a10 m c = A; pointwise

/-! ## The means -/

section
variable (h4 : ∀ (c : Dev nD) n, (m ((c.tc : Thread nD τ).loc main_arg4) n : BitVec 32).toNat < 4096)
include h4

/-- A bonds' sum over its count, this at least 1, is the bonds' mean. -/
theorem bonds (g : Fin 4096) (k : Fin 16) :
    Ideal.div (Region2.x0 (in2 m) c (ix2 g k)) (max (Region2.x1 (in2 m) c (ix2 g 0)) 1)
      = mean (fun n : Fin 1600000 => a4 m c (ix1 n)) (fun n => a1 m c (ix2 n k)) g.val := by
  rw [x0_eq, x1_eq, rows16, column0, Value0.sums (in0 m) c (ids0_lt m h4 c) (a4 m c) (in0_ids m c),
    Value0.counts (in0 m) c (ids0_lt m h4 c) (a4 m c) (in0_ids m c), in0_bonds, mean]

end

section
variable (h3 : ∀ (c : Dev nD) n, (m ((c.tc : Thread nD τ).loc main_arg3) n : BitVec 32).toNat < 4096)
include h3

/-- A sites' sum over its count, this at least 1, is the sites' mean. -/
theorem sites (g : Fin 4096) (k : Fin 128) :
    Ideal.div (Region2.x2 (in2 m) c (ix2 g k)) (max (Region2.x3 (in2 m) c (ix2 g 0)) 1)
      = mean (fun n : Fin 50000 => a3 m c (ix1 n)) (fun n => a0 m c (ix2 n k)) g.val := by
  rw [x2_eq, x3_eq, rows128, column1, Value1.sums (in1 m) c (ids1_lt m h3 c) (a3 m c) (in1_ids m c),
    Value1.counts (in1 m) c (ids1_lt m h3 c) (a3 m c) (in1_ids m c), in1_sites, mean]

end

/-! ## The result -/

/-- One number of the kernel's result: three layers over the means of the bonds, those of the sites and the states. -/
theorem result_apply (h4 : ∀ (c : Dev nD) n, (m ((c.tc : Thread nD τ).loc main_arg4) n : BitVec 32).toNat < 4096)
    (h3 : ∀ (c : Dev nD) n, (m ((c.tc : Thread nD τ).loc main_arg3) n : BitVec 32).toNat < 4096) (g : Fin 4096) (j : Fin 128) :
    Region2.res (in2 m) c (ix2 g j)
      = layer (fun k : Fin 128 => layer (fun k' : Fin 256 =>
            layer1 (fun i => mean (fun n : Fin 1600000 => a4 m c (ix1 n)) (fun n => a1 m c (ix2 n i)) g.val)
              (fun i => mean (fun n : Fin 50000 => a3 m c (ix1 n)) (fun n => a0 m c (ix2 n i)) g.val)
              (fun i => a2 m c (ix2 g i)) (fun i => a5 m c (ix2 k' i)) (a6 m c (ix1 k')))
          (fun k' => a7 m c (ix2 k k')) (a8 m c (ix1 k))) (fun k => a9 m c (ix2 j k)) (a10 m c (ix1 j)) := by
  rw [Region2.res, Body2.out, pay1_apply, w12]
  refine congrArg₂ (fun A w => layer A w (a10 m c (ix1 j))) (funext fun k => ?_) (funext fun k => w11 m c k j)
  rw [w10]
  refine congrArg₂ (fun A w => layer A w (a8 m c (ix1 k))) (funext fun k' => ?_) (funext fun k' => w9 m c k' k)
  rw [pay2_apply, w8, x4_eq]
  refine congrArg (fun x => max (x + a6 m c (ix1 k')) 0) (congrArg₂ (· + ·) (congrArg₂ (· + ·) ?_ ?_) ?_)
  · exact Finset.sum_congr rfl fun i _ => congrArg₂ (· * ·) (bonds m c h4 g i) (w5 m c i k')
  · exact Finset.sum_congr rfl fun i _ => congrArg₂ (· * ·) (sites m c h3 g i) (w6 m c i k')
  · exact Finset.sum_congr rfl fun i _ => congrArg (a2 m c (ix2 g i) * ·) (w7 m c i k')

end Cert.KernelIdeal.Result

end
-- ==== Proof.Algebraic.lean ====
/-
  The kernel and the reference compute the same function over the extended reals.
-/
module

public import proofs.«01_k».proof.Proof.Frames
public import proofs.«01_k».proof.Proof.Reference
public import proofs.«01_k».proof.Proof.PI.Result

@[expose] public section

set_option maxRecDepth 16384

noncomputable section

namespace Cert.Algebraic

open Idealize.ShloMosaic Idealize.ShloMosaic.TcCoe Idealize.SL.Sem
open Cert.KernelIdeal.Result

variable (m : (ℓ : Loc Cert.KernelIdeal.nD Cert.KernelIdeal.τ Cert.KernelIdeal.sig) → Buf (Elt Ideal) ℓ) (c : Dev Cert.KernelIdeal.nD)

/-- The reference's result of the kernel's arguments is the kernel's result. -/
theorem result_eq
    (h4 : ∀ (c : Dev Cert.KernelIdeal.nD) n, (m ((c.tc : Thread Cert.KernelIdeal.nD Cert.KernelIdeal.τ).loc Cert.KernelIdeal.main_arg4) n : BitVec 32).toNat < 4096)
    (h3 : ∀ (c : Dev Cert.KernelIdeal.nD) n, (m ((c.tc : Thread Cert.KernelIdeal.nD Cert.KernelIdeal.τ).loc Cert.KernelIdeal.main_arg3) n : BitVec 32).toNat < 4096) :
    Cert.ReferenceIdeal.Layers.result (a0 m c) (a1 m c) (a2 m c) (a3 m c) (a4 m c) (a5 m c) (a6 m c) (a7 m c) (a8 m c) (a9 m c) (a10 m c)
      = Cert.KernelIdeal.Region2.res (Cert.KernelIdeal.Segs.in2 m) c := by
  funext i
  rw [eq_ix2 i]
  exact (Cert.ReferenceIdeal.Layers.result_apply (a0 m c) (a1 m c) (a2 m c) (a3 m c) (h3 c) (a4 m c) (h4 c) (a5 m c) (a6 m c) (a7 m c)
    (a8 m c) (a9 m c) (a10 m c) _ _).trans (result_apply m c h4 h3 _ _).symm

/-- Under the precondition the kernel and the reference, run from the same arguments, end with the same result. -/
theorem algebraic : Cert.algebraic_KernelIdeal_ReferenceIdeal := fun m g m' g' hm he =>
  ⟨fun c => Cert.KernelIdeal.Region2.res (Cert.KernelIdeal.Segs.in2 m) c,
    (θ_run Cert.KernelIdeal.defs _ _).mono (fun _ h => h.1)
      (Cert.KernelIdeal.Run.run m g (fun c => (Cert.Pre.ranges (hm c)).2) (fun c => (Cert.Pre.ranges (hm c)).1)),
    (θ_run Cert.ReferenceIdeal.defs _ _).mono (fun _ h c => ⟨(h c).1.trans (by
        obtain ⟨e0, e1, e2, e3, e4, e5, e6, e7, e8, e9, e10⟩ := he c
        rw [e0, e1, e2, e3, e4, e5, e6, e7, e8, e9, e10]
        exact result_eq m c (fun c => (Cert.Pre.ranges (hm c)).2) (fun c => (Cert.Pre.ranges (hm c)).1)), (h c).2⟩)
      (Cert.ReferenceIdeal.Value.run m' g')⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Cert.Frames.kernel, Cert.Frames.kernelIdeal, Cert.Frames.reference, Cert.Frames.reference_in_range, trivial,
  Cert.Algebraic.algebraic⟩

end Cert.Proof

end
